-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S2x256x1024 : Shape := ⟨3, ![2, 256, 1024]⟩
abbrev S3x1024x1024 : Shape := ⟨3, ![3, 1024, 1024]⟩
abbrev S1024x1024 : Shape := ⟨2, ![1024, 1024]⟩
abbrev S3x1024x2048 : Shape := ⟨3, ![3, 1024, 2048]⟩
abbrev S4x128 : Shape := ⟨2, ![4, 128]⟩
abbrev S3x4 : Shape := ⟨2, ![3, 4]⟩
abbrev S3 : Shape := ⟨1, ![3]⟩
abbrev S_ : Shape := ⟨0, ![]⟩
abbrev S2 : Shape := ⟨1, ![2]⟩
abbrev S1 : Shape := ⟨1, ![1]⟩
abbrev S1x256x1024 : Shape := ⟨3, ![1, 256, 1024]⟩
abbrev S256x1024 : Shape := ⟨2, ![256, 1024]⟩
abbrev S1x1024x2048 : Shape := ⟨3, ![1, 1024, 2048]⟩
abbrev S1x1 : Shape := ⟨2, ![1, 1]⟩
abbrev S256x2048 : Shape := ⟨2, ![256, 2048]⟩
abbrev S1x256x2048 : Shape := ⟨3, ![1, 256, 2048]⟩
abbrev S1x1x1 : Shape := ⟨3, ![1, 1, 1]⟩
abbrev S1x128 : Shape := ⟨2, ![1, 128]⟩
abbrev S1x4x128 : Shape := ⟨3, ![1, 4, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S2x256x1024, .f32⟩
  | .local _ .vmem, ⟨2, _⟩ => ⟨S3x1024x1024, .bf16⟩
  | .local _ .vmem, ⟨3, _⟩ => ⟨S3x1024x1024, .bf16⟩
  | .local _ .vmem, ⟨4, _⟩ => ⟨S1024x1024, .f32⟩
  | .local _ .vmem, ⟨5, _⟩ => ⟨S3x1024x2048, .f32⟩
  | .local _ .vmem, ⟨6, _⟩ => ⟨S4x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let v19 : BitVec 32 := Scalar.addi v18 c0_i32_15
  let c0_i32_24 : BitVec 32 := 0#32
  ![v19.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_30 : BitVec 32 := 1024#32
  let v34 : BitVec 32 := Scalar.muli v2 c1024_i32_30
  let c0_i32_31 : BitVec 32 := 0#32
  ![v34.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_32 : BitVec 32 := 1024#32
  let v36 : BitVec 32 := Scalar.muli v2 c1024_i32_32
  let c0_i32_37 : BitVec 32 := 0#32
  ![v36.toNat, 0]
def k0_off4 (d0 : Dev nD) (c1_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v42 : BitVec 32 := Scalar.subi v2 c1_i32_38
  let c4_i32_39 : BitVec 32 := 4#32
  let v43 : BitVec 32 := Scalar.addi v42 c4_i32_39
  let c4_i32_40 : BitVec 32 := 4#32
  let v44 : BitVec 32 := Scalar.remsi v43 c4_i32_40
  let c1024_i32_41 : BitVec 32 := 1024#32
  let v45 : BitVec 32 := Scalar.muli v44 c1024_i32_41
  let c0_i32_46 : BitVec 32 := 0#32
  ![v45.toNat, 0]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_56 : BitVec 32 := 1#32
  let v60 : BitVec 32 := Scalar.addi v2 c1_i32_56
  let c4_i32_57 : BitVec 32 := 4#32
  let v61 : BitVec 32 := Scalar.remsi v60 c4_i32_57
  let c1_i32_83 : BitVec 32 := 1#32
  let v82 : BitVec 32 := Scalar.muli v61 c1_i32_83
  let v83 : BitVec 32 := Scalar.addi c0_i32_84 v82
  v83.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_89 : BitVec 32 := 3#32
  let v92 : BitVec 32 := Scalar.addi v2 c3_i32_89
  let c4_i32_90 : BitVec 32 := 4#32
  let v93 : BitVec 32 := Scalar.remsi v92 c4_i32_90
  let c1_i32_114 : BitVec 32 := 1#32
  let v114 : BitVec 32 := Scalar.muli v93 c1_i32_114
  let v115 : BitVec 32 := Scalar.addi c0_i32_115 v114
  v115.toNat
def k0_dev6 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_120 : BitVec 32 := 2#32
  let v124 : BitVec 32 := Scalar.addi v2 c2_i32_120
  let c4_i32_121 : BitVec 32 := 4#32
  let v125 : BitVec 32 := Scalar.remsi v124 c4_i32_121
  let c1_i32_148 : BitVec 32 := 1#32
  let v146 : BitVec 32 := Scalar.muli v125 c1_i32_148
  let v147 : BitVec 32 := Scalar.addi c0_i32_149 v146
  v147.toNat
def k0_dev7 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_154 : BitVec 32 := 1#32
  let v156 : BitVec 32 := Scalar.addi v2 c1_i32_154
  let c4_i32_155 : BitVec 32 := 4#32
  let v157 : BitVec 32 := Scalar.remsi v156 c4_i32_155
  let c1_i32_181 : BitVec 32 := 1#32
  let v178 : BitVec 32 := Scalar.muli v157 c1_i32_181
  let v179 : BitVec 32 := Scalar.addi c0_i32_182 v178
  v179.toNat
def k0_dev8 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_187 : BitVec 32 := 3#32
  let v188 : BitVec 32 := Scalar.addi v2 c3_i32_187
  let c4_i32_188 : BitVec 32 := 4#32
  let v189 : BitVec 32 := Scalar.remsi v188 c4_i32_188
  let c1_i32_214 : BitVec 32 := 1#32
  let v210 : BitVec 32 := Scalar.muli v189 c1_i32_214
  let v211 : BitVec 32 := Scalar.addi c0_i32_215 v210
  v211.toNat
def k0_dev9 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_220 : BitVec 32 := 2#32
  let v220 : BitVec 32 := Scalar.addi v2 c2_i32_220
  let c4_i32_221 : BitVec 32 := 4#32
  let v221 : BitVec 32 := Scalar.remsi v220 c4_i32_221
  let c1_i32_248 : BitVec 32 := 1#32
  let v242 : BitVec 32 := Scalar.muli v221 c1_i32_248
  let v243 : BitVec 32 := Scalar.addi c0_i32_249 v242
  v243.toNat
def k0_dev10 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_254 : BitVec 32 := 1#32
  let v252 : BitVec 32 := Scalar.addi v2 c1_i32_254
  let c4_i32_255 : BitVec 32 := 4#32
  let v253 : BitVec 32 := Scalar.remsi v252 c4_i32_255
  let c1_i32_281 : BitVec 32 := 1#32
  let v274 : BitVec 32 := Scalar.muli v253 c1_i32_281
  let v275 : BitVec 32 := Scalar.addi c0_i32_282 v274
  v275.toNat
def k0_dev11 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_287 : BitVec 32 := 3#32
  let v284 : BitVec 32 := Scalar.addi v2 c3_i32_287
  let c4_i32_288 : BitVec 32 := 4#32
  let v285 : BitVec 32 := Scalar.remsi v284 c4_i32_288
  let c1_i32_314 : BitVec 32 := 1#32
  let v306 : BitVec 32 := Scalar.muli v285 c1_i32_314
  let v307 : BitVec 32 := Scalar.addi c0_i32_315 v306
  v307.toNat
def k0_dev12 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_320 : BitVec 32 := 2#32
  let v316 : BitVec 32 := Scalar.addi v2 c2_i32_320
  let c4_i32_321 : BitVec 32 := 4#32
  let v317 : BitVec 32 := Scalar.remsi v316 c4_i32_321
  let c1_i32_348 : BitVec 32 := 1#32
  let v338 : BitVec 32 := Scalar.muli v317 c1_i32_348
  let v339 : BitVec 32 := Scalar.addi c0_i32_349 v338
  v339.toNat
def k0_dev13 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_354 : BitVec 32 := 1#32
  let v348 : BitVec 32 := Scalar.addi v2 c1_i32_354
  let c4_i32_355 : BitVec 32 := 4#32
  let v349 : BitVec 32 := Scalar.remsi v348 c4_i32_355
  let c1_i32_381 : BitVec 32 := 1#32
  let v370 : BitVec 32 := Scalar.muli v349 c1_i32_381
  let v371 : BitVec 32 := Scalar.addi c0_i32_382 v370
  v371.toNat
def k0_dev14 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_387 : BitVec 32 := 3#32
  let v380 : BitVec 32 := Scalar.addi v2 c3_i32_387
  let c4_i32_388 : BitVec 32 := 4#32
  let v381 : BitVec 32 := Scalar.remsi v380 c4_i32_388
  let c1_i32_406 : BitVec 32 := 1#32
  let v393 : BitVec 32 := Scalar.muli v381 c1_i32_406
  let v394 : BitVec 32 := Scalar.addi c0_i32_407 v393
  v394.toNat
def k0_dev15 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_412 : BitVec 32 := 2#32
  let v403 : BitVec 32 := Scalar.addi v2 c2_i32_412
  let c4_i32_413 : BitVec 32 := 4#32
  let v404 : BitVec 32 := Scalar.remsi v403 c4_i32_413
  let c1_i32_431 : BitVec 32 := 1#32
  let v416 : BitVec 32 := Scalar.muli v404 c1_i32_431
  let v417 : BitVec 32 := Scalar.addi c0_i32_432 v416
  v417.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v817 : Index := Scalar.indexCast v2
  let c0_930 : Index := 0#32
  ![v817.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_937 : BitVec 32 := 0#32
  ![v2.toNat, 0]
def k0_dev16 (d0 : Dev nD) : Nat :=
  let c0_i32_936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_931 : BitVec 32 := 1#32
  let v821 : BitVec 32 := Scalar.addi v2 c1_i32_931
  let c4_i32_932 : BitVec 32 := 4#32
  let v822 : BitVec 32 := Scalar.remsi v821 c4_i32_932
  let c1_i32_935 : BitVec 32 := 1#32
  let v823 : BitVec 32 := Scalar.muli v822 c1_i32_935
  let v824 : BitVec 32 := Scalar.addi c0_i32_936 v823
  v824.toNat
def k0_dev17 (d0 : Dev nD) : Nat :=
  let c0_i32_944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_939 : BitVec 32 := 2#32
  let v831 : BitVec 32 := Scalar.addi v2 c2_i32_939
  let c4_i32_940 : BitVec 32 := 4#32
  let v832 : BitVec 32 := Scalar.remsi v831 c4_i32_940
  let c1_i32_943 : BitVec 32 := 1#32
  let v833 : BitVec 32 := Scalar.muli v832 c1_i32_943
  let v834 : BitVec 32 := Scalar.addi c0_i32_944 v833
  v834.toNat
def k0_dev18 (d0 : Dev nD) : Nat :=
  let c0_i32_952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_947 : BitVec 32 := 3#32
  let v841 : BitVec 32 := Scalar.addi v2 c3_i32_947
  let c4_i32_948 : BitVec 32 := 4#32
  let v842 : BitVec 32 := Scalar.remsi v841 c4_i32_948
  let c1_i32_951 : BitVec 32 := 1#32
  let v843 : BitVec 32 := Scalar.muli v842 c1_i32_951
  let v844 : BitVec 32 := Scalar.addi c0_i32_952 v843
  v844.toNat
def k0_off7 (d0 : Dev nD) (c1_i32_958 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v854 : BitVec 32 := Scalar.subi v2 c1_i32_958
  let c4_i32_959 : BitVec 32 := 4#32
  let v855 : BitVec 32 := Scalar.addi v854 c4_i32_959
  let c4_i32_960 : BitVec 32 := 4#32
  let v856 : BitVec 32 := Scalar.remsi v855 c4_i32_960
  let c0_i32_968 : BitVec 32 := 0#32
  ![v856.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Held.lean ====
/-
  A piece of a buffer held at the values it shows: what a load, a store, a local transfer and the wait for one do to
  pieces so held, how a squeezed piece and the piece itself trade places, and how a whole array is its pieces.
-/
module

public import Idealize.ShloMosaic.Lib.Pipeline.Kit
public import Idealize.ShloMosaic.Lib.VecWindow
public import Idealize.ShloMosaic.Lib.Transfers
public import Idealize.ShloMosaic.Lib.Rounds
public import Idealize.ShloMosaic.Lib.Tactic

@[expose] public section

noncomputable section

namespace Cert.Held

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} [∀ e, Nonempty (Val e)]
variable {Name : Type} [DecidableEq Name] {U : Type} [URA U] {Lvl : Type}

local notation "𝕄" => MT nD τ sig Ix Val Name U Lvl

section Facts

variable {sp : Space} {s s' : Shape} {e : EltTy}

/-- The piece `m` of device thread `c`, held by its own elements at share `q`, showing `X`. -/
def held (c : Thread nD τ) (m : Memref sig c.2.kind sp s e) (q : PosShare TreeShare) (X : s.Idx → Val e) : sProp 𝕄 :=
  m.view.loc c ↦[m.view.set]{q} m.view.rep X

/-- The piece held whole, at contents not named. -/
def heldAny (c : Thread nD τ) (m : Memref sig c.2.kind sp s e) : sProp 𝕄 :=
  iprop(∃ X : s.Idx → Val e, held c m fullShare X)

instance held_storable (c : Thread nD τ) (m : Memref sig c.2.kind sp s e) (q : PosShare TreeShare) (X : s.Idx → Val e) :
    BI.Storable (upEmb : UEmb _ 𝕄) (held (Ix := Ix) (Name := Name) (U := U) (Lvl := Lvl) c m q X) := by unfold held; infer_instance

instance heldAny_storable (c : Thread nD τ) (m : Memref sig c.2.kind sp s e) :
    BI.Storable (upEmb : UEmb _ 𝕄) (heldAny (Ix := Ix) (Val := Val) (Name := Name) (U := U) (Lvl := Lvl) c m) := by unfold heldAny; infer_instance

/-- A piece held at any contents is held at the values they show. -/
theorem held_of (c : Thread nD τ) (m : Memref sig c.2.kind sp s e) (q : PosShare TreeShare) (f : Buf Val (m.view.loc c)) {X : s.Idx → Val e}
    (h : m.view.read Val f = X) : (m.view.loc c ↦[m.view.set]{q} f : sProp 𝕄) ⊢ held c m q X := pointsTo_rep_of_read c m f q X h

theorem heldAny_intro (c : Thread nD τ) (m : Memref sig c.2.kind sp s e) (X : s.Idx → Val e) :
    (held c m fullShare X : sProp 𝕄) ⊢ heldAny c m := by
  unfold heldAny; iintro H; iexists X; iexact H

theorem heldAny_elim (c : Thread nD τ) (m : Memref sig c.2.kind sp s e) :
    (heldAny c m : sProp 𝕄) ⊢ iprop(∃ X : s.Idx → Val e, held c m fullShare X) := by
  unfold heldAny; iintro H; iexact H

/-- The squeezed piece is the piece, its values shape-cast. -/
theorem held_unsqueeze (c : Thread nD τ) (m : Memref sig c.2.kind sp s e) (hq : s.Squeezes s') (hc : s'.ShapeCasts s) (q : PosShare TreeShare)
    (X : s'.Idx → Val e) : (held c (m.squeeze s' hq) q X : sProp 𝕄) ⊢ held c m q (shapeCast s X hc) := by
  unfold held
  have hs : (m.squeeze s' hq).view.set = m.view.set := View.set_reshape _ _
  refine Entails.trans ?_ (held_of c m q ((m.squeeze s' hq).view.rep X) ?_)
  · show ((m.view.loc c ↦[(m.squeeze s' hq).view.set]{q} _ : sProp 𝕄)) ⊢ _
    rw [hs]
  · have h : (m.squeeze s' hq).view.read Val ((m.squeeze s' hq).view.rep X) = X := View.read_rep _ _
    have h' : (m.squeeze s' hq).view.read Val ((m.squeeze s' hq).view.rep X)
      = fun y => m.view.read Val ((m.squeeze s' hq).view.rep X) (Shape.reshapeEquiv hq.numel_eq y) := rfl
    funext i
    rw [h'] at h
    have := congrFun h ((Shape.reshapeEquiv hq.numel_eq).symm i)
    simp only [Equiv.apply_symm_apply] at this
    rw [this]
    rfl

/-- The piece is its squeeze, the values shape-cast. -/
theorem held_squeeze (c : Thread nD τ) (m : Memref sig c.2.kind sp s e) (hq : s.Squeezes s') (hc : s.ShapeCasts s') (q : PosShare TreeShare)
    (X : s.Idx → Val e) : (held c m q X : sProp 𝕄) ⊢ held c (m.squeeze s' hq) q (shapeCast s' X hc) := by
  unfold held
  have hs : (m.squeeze s' hq).view.set = m.view.set := View.set_reshape _ _
  refine Entails.trans ?_ (held_of c (m.squeeze s' hq) q (m.view.rep X) ?_)
  · show _ ⊢ ((m.view.loc c ↦[(m.squeeze s' hq).view.set]{q} _ : sProp 𝕄))
    rw [hs]
  · show (fun y => m.view.read Val (m.view.rep X) (Shape.reshapeEquiv hq.numel_eq y)) = _
    rw [View.read_rep]; rfl

/-- The values a piece shows at a rectangle. -/
def part (r : Rect s) (X : s.Idx → Val e) : r.shape.Idx → Val e := fun y => X (r.emb y)

/-- The whole is its pieces: rectangles that between them cover every index once. -/
theorem held_pieces (c : Thread nD τ) (m : Memref sig c.2.kind sp s e) {T : Type} [Fintype T] [DecidableEq T] (R : T → Rect s)
    (hR : ∀ t a, (R t).stride a = 1) (hdis : ∀ t t' i i', (R t).emb i = (R t').emb i' → t = t') (hcov : ∀ i, ∃ t y, (R t).emb y = i)
    (q : PosShare TreeShare) (X : s.Idx → Val e) :
    (held c m q X : sProp 𝕄) = BI.bigSep Finset.univ fun t => held c (m.slice (R t) (hR t)) q (part (R t) X) := by
  have hset : m.view.set = Finset.univ.biUnion fun t => (m.slice (R t) (hR t)).view.set := by
    ext i
    constructor
    · intro hi
      obtain ⟨x, -, rfl⟩ := Finset.mem_map.mp hi
      obtain ⟨t, y, rfl⟩ := hcov x
      exact Finset.mem_biUnion.mpr ⟨t, Finset.mem_univ _, Finset.mem_map.mpr ⟨y, Finset.mem_univ _, rfl⟩⟩
    · intro hi
      obtain ⟨t, -, ht⟩ := Finset.mem_biUnion.mp hi
      obtain ⟨y, -, rfl⟩ := Finset.mem_map.mp ht
      exact Finset.mem_map.mpr ⟨(R t).emb y, Finset.mem_univ _, rfl⟩
  unfold held
  rw [hset]
  refine (pointsTo_biUnion (ℓ := m.view.loc c) Finset.univ (fun t => (m.slice (R t) (hR t)).view.set) ?_).trans ?_
  · intro t _ t' _ hne
    refine Finset.disjoint_left.mpr fun i hi hi' => hne ?_
    obtain ⟨y, -, rfl⟩ := Finset.mem_map.mp hi
    obtain ⟨y', -, hy'⟩ := Finset.mem_map.mp hi'
    exact (hdis t' t y' y (m.view.emb.injective hy')).symm
  · refine congrArg (BI.bigSep Finset.univ) (funext fun t => ?_)
    refine (pointsTo_rep c (m.slice (R t) (hR t)) (m.view.rep X) q).trans ?_
    have : (m.slice (R t) (hR t)).view.read Val (m.view.rep X) = part (R t) X :=
      (show _ = fun y => m.view.read Val (m.view.rep X) ((R t).emb y) from rfl).trans (by rw [View.read_rep]; rfl)
    rw [this]

/-- An array put together from the values of its pieces. -/
def glue {T : Type} (R : T → Rect s) (hcov : ∀ i, ∃ t y, (R t).emb y = i) (X : (t : T) → (R t).shape.Idx → Val e) : s.Idx → Val e :=
  fun i => X (hcov i).choose (hcov i).choose_spec.choose

/-- It shows each piece's values at that piece. -/
theorem part_glue {T : Type} (R : T → Rect s) (hdis : ∀ t t' i i', (R t).emb i = (R t').emb i' → t = t')
    (hcov : ∀ i, ∃ t y, (R t).emb y = i) (X : (t : T) → (R t).shape.Idx → Val e) (t : T) : part (R t) (glue R hcov X) = X t := by
  have key : ∀ t' y' y, (R t').emb y' = (R t).emb y → X t' y' = X t y := by
    intro t' y' y h
    obtain rfl := hdis t' t y' y h
    rw [(R t').emb.injective h]
  exact funext fun y => key _ _ y (hcov _).choose_spec.choose_spec

/-- Pieces held between them hold the whole, glued. -/
theorem held_glue (c : Thread nD τ) (m : Memref sig c.2.kind sp s e) {T : Type} [Fintype T] [DecidableEq T] (R : T → Rect s)
    (hR : ∀ t a, (R t).stride a = 1) (hdis : ∀ t t' i i', (R t).emb i = (R t').emb i' → t = t') (hcov : ∀ i, ∃ t y, (R t).emb y = i)
    (q : PosShare TreeShare) (X : (t : T) → (R t).shape.Idx → Val e) :
    (BI.bigSep Finset.univ fun t => held c (m.slice (R t) (hR t)) q (X t) : sProp 𝕄) = held c m q (glue R hcov X) := by
  rw [held_pieces c m R hR hdis hcov]
  exact congrArg (BI.bigSep Finset.univ) (funext fun t => by rw [part_glue R hdis hcov])

/-- A whole array held at unnamed contents is its pieces so held. -/
theorem heldAny_pieces (c : Thread nD τ) (m : Memref sig c.2.kind sp s e) {T : Type} [Fintype T] [DecidableEq T] (R : T → Rect s)
    (hR : ∀ t a, (R t).stride a = 1) (hdis : ∀ t t' i i', (R t).emb i = (R t').emb i' → t = t') (hcov : ∀ i, ∃ t y, (R t).emb y = i) :
    (heldAny c m : sProp 𝕄) ⊣⊢ BI.bigSep Finset.univ fun t => heldAny c (m.slice (R t) (hR t)) := by
  constructor
  · refine exists_elim fun X => ?_
    rw [held_pieces c m R hR hdis hcov]
    exact BI.bigSep_mono fun t _ => heldAny_intro c (m.slice (R t) (hR t)) (part (R t) X)
  · unfold heldAny
    iintro H
    ihave H := (BI.bigSep_exists_pi Finset.univ fun t X => held c (m.slice (R t) (hR t)) fullShare X) $$ H
    icases H with ⟨%X, H⟩
    iexists (glue R hcov X)
    rw [← held_glue c m R hR hdis hcov]
    iexact H

/-- A part of a held array can be lent out and taken back. -/
theorem held_lend (c : Thread nD τ) (m : Memref sig c.2.kind sp s e) (R : Rect s) (hR : ∀ a, R.stride a = 1) (q : PosShare TreeShare)
    (X : s.Idx → Val e) : (held c m q X : sProp 𝕄) ⊢ iprop(held c (m.slice R hR) q (part R X) ∗ (held c (m.slice R hR) q (part R X) -∗ held c m q X)) := by
  have hsub : (m.slice R hR).view.set ⊆ m.view.set := View.set_slice_subset _ _
  have hread : (m.slice R hR).view.read Val (m.view.rep X) = part R X :=
      (show _ = fun y => m.view.read Val (m.view.rep X) (R.emb y) from rfl).trans (by rw [View.read_rep]; rfl)
  have hrep : (held c (m.slice R hR) q (part R X) : sProp 𝕄) = ((m.view.loc c) ↦[(m.slice R hR).view.set]{q} m.view.rep X) := by
    unfold held
    rw [← hread]
    exact (pointsTo_rep c (m.slice R hR) (m.view.rep X) q).symm
  rw [hrep]
  unfold held
  iintro H
  ihave H := (pointsTo_split_subset hsub).1 $$ H
  icases H with ⟨H1, H2⟩
  isplitl [H1]; · iexact H1
  iintro H1
  iapply (pointsTo_split_subset hsub).2
  isplitl [H1]; · iexact H1
  iexact H2

/-- A held share is its two halves. -/
theorem held_halves (c : Thread nD τ) (m : Memref sig c.2.kind sp s e) (q : PosShare TreeShare) (X : s.Idx → Val e) :
    (held c m q X : sProp 𝕄) ⊣⊢ iprop(held c m q.left X ∗ held c m q.right X) := by
  unfold held
  exact pointsTo_share (PosShare.mem_left_op_right q)

end Facts

/-! ## The rules -/

section Rules

variable [Preorder Lvl] {Λ : Labels} {defs : Defs nD τ sig Val Λ} (𝒱 : Variants) (c : Thread nD τ) (bd : Option 𝒱.V)
variable {α D : Type} [DecidableEq D] {Q : α → sProp (MT nD τ sig Ix Val Name U Lvl)} {s : Shape} {e : EltTy}

/-- A load of a piece held by its own elements reads what it shows. -/
theorem wp_load {cs : CoreSpace} {m : Memref sig c.2.kind cs s e} {off size : Fin s.rank → ℕ} {inb : ∀ a, off a + size a ≤ s.size a}
    {hl : m.view.LoadsAt (Rect.unit off size inb).toLoadRect} {k : ((Rect.unit off size inb).shape.Idx → Val e) → Prog (TpuEff nD τ sig Val Λ c.2) α}
    {q : PosShare TreeShare} {X : (Rect.unit off size inb).shape.Idx → Val e} :
    (held c (m.slice (Rect.unit off size inb) fun _ => rfl) q X)
      ⊢ iprop(((held c (m.slice (Rect.unit off size inb) fun _ => rfl) q X) -∗ wp frame (wpE defs 𝒱 c bd) Set.univ (k X) Q)
        -∗ wp frame (wpE defs 𝒱 c bd) Set.univ (.op (.load m (Rect.unit off size inb).toLoadRect hl) k) Q) := by
  have h := Idealize.ShloMosaic.wp_load_rect (defs := defs) 𝒱 c bd (Γ := .empty) Set.univ (m := m) (r := Rect.unit off size inb) (hl := hl) (k := k) (Q := Q) (q := q)
    (f := (m.slice (Rect.unit off size inb) fun _ => rfl).view.rep X) (S := (m.slice (Rect.unit off size inb) fun _ => rfl).view.set) (Finset.Subset.refl _)
  rw [show (m.access (Rect.unit off size inb)).read Val ((m.slice (Rect.unit off size inb) fun _ => rfl).view.rep X) = X from View.read_rep _ _] at h
  exact h

/-- A load of a whole array held by its own elements. -/
theorem wp_load_full {cs : CoreSpace} {m : Memref sig c.2.kind cs s e} {off : Fin s.rank → ℕ} {inb : ∀ a, off a + s.size a ≤ s.size a}
    {hl : m.view.LoadsAt (Rect.unit off s.size inb).toLoadRect} {k : (s.Idx → Val e) → Prog (TpuEff nD τ sig Val Λ c.2) α}
    {q : PosShare TreeShare} {X : s.Idx → Val e} :
    (held c m q X)
      ⊢ iprop(((held c m q X) -∗ wp frame (wpE defs 𝒱 c bd) Set.univ (k X) Q)
        -∗ wp frame (wpE defs 𝒱 c bd) Set.univ (.op (.load m (Rect.unit off s.size inb).toLoadRect hl) k) Q) := by
  have h := Idealize.ShloMosaic.wp_load (defs := defs) 𝒱 c bd (Γ := .empty) Set.univ (m := m) (r := (Rect.unit off s.size inb).toLoadRect) (hl := hl) (k := k) (Q := Q) (q := q)
    (f := m.view.rep X) (S := m.view.set) (Finset.map_subset_map.mpr (Finset.subset_univ _))
  rw [View.readAt_rep_full] at h
  exact h

/-- A store over a piece held whole leaves the payload. -/
theorem wp_store {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {X : (Rect.unit off size inb).shape.Idx → Val e} :
    (held c (m.slice (Rect.unit off size inb) fun _ => rfl) fullShare X)
      ⊢ iprop(((held c (m.slice (Rect.unit off size inb) fun _ => rfl) fullShare w) -∗ wp frame (wpE defs 𝒱 c bd) Set.univ (k ⟨⟩) Q)
        -∗ wp frame (wpE defs 𝒱 c bd) Set.univ (.op (.store m (Rect.unit off size inb) w Finset.univ hx hm) k) Q) := by
  have h := Idealize.ShloMosaic.wp_store (defs := defs) 𝒱 c bd (Γ := .empty) Set.univ (m := m) (r := Rect.unit off size inb) (w := w) (hx := hx) (hm := hm) (k := k) (Q := Q)
    (f := (m.slice (Rect.unit off size inb) fun _ => rfl).view.rep X) (S := (m.slice (Rect.unit off size inb) fun _ => rfl).view.set) (Finset.Subset.refl _)
  iintro H Hk
  iapply h $$ [H]
  · unfold held; iexact H
  iintro H
  iapply Hk
  iapply (held_of (X := w) c (m.slice (Rect.unit off size inb) fun _ => rfl) fullShare
    ((m.access (Rect.unit off size inb)).write Val ((m.slice (Rect.unit off size inb) fun _ => rfl).view.rep X) w Finset.univ) (View.read_write_univ _ _)) $$ H

/-- A store over a whole array held by its own elements. -/
theorem wp_store_full {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} {X : s.Idx → Val e} :
    (held c m fullShare X)
      ⊢ iprop(((held c m fullShare w) -∗ wp frame (wpE defs 𝒱 c bd) Set.univ (k ⟨⟩) Q)
        -∗ wp frame (wpE defs 𝒱 c bd) Set.univ (.op (.store m (Rect.unit off s.size inb) w Finset.univ hx hm) k) Q) := by
  have hE : ∀ y : s.Idx, (Rect.unit off s.size inb).emb y = y := fun y => Rect.emb_unit_full inb y
  have hsub : (m.access (Rect.unit off s.size inb)).setOn Finset.univ ⊆ m.view.set := View.set_slice_subset _ _
  have h := Idealize.ShloMosaic.wp_store (defs := defs) 𝒱 c bd (Γ := .empty) Set.univ (m := m) (r := Rect.unit off s.size inb) (w := w) (hx := hx) (hm := hm) (k := k) (Q := Q)
    (f := m.view.rep X) (S := m.view.set) hsub
  iintro H Hk
  iapply h $$ [H]
  · unfold held; iexact H
  iintro H
  iapply Hk
  iapply (held_of (X := w) c m fullShare ((m.access (Rect.unit off s.size inb)).write Val (m.view.rep X) w Finset.univ) ?_) $$ H
  have h2 : (m.access (Rect.unit off s.size inb)).read Val ((m.access (Rect.unit off s.size inb)).write Val (m.view.rep X) w Finset.univ) = w :=
    View.read_write_univ _ _
  funext y
  have h3 := congrFun h2 y
  refine Eq.trans ?_ h3
  show m.view.read Val _ y = m.view.read Val _ ((Rect.unit off s.size inb).emb y)
  rw [hE]

variable (EC : UEmb Counters (MT nD τ sig Ix Val Name U Lvl))

/-- A local transfer between held pieces: in flight it carries the destination showing the source's values, and the
    source's share. -/
theorem wp_copy [Infinite Name] [EC.LandsIn (upEmb : UEmb _ 𝕄)] {sp sp' : Space} {src : Memref sig c.2.kind sp s e}
    {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e} (ι : Ix) (N : ℕ)
    (hN : dst.view.amount sm = N) (hN0 : 0 < N) :
    iprop(held c src q X ∗ heldAny c dst ∗ semVal (c, sm) 0)
      ⊢ iprop((Transfers.Flight EC c sm ι N iprop(held c dst fullShare X ∗ held c src q X) -∗ wp frame (wpE defs 𝒱 c bd) Set.univ (k ⟨⟩) Q)
          -∗ wp frame (wpE defs 𝒱 c bd) Set.univ (.op (.enqueueDma src (.here dst) sm hsrc hdst hsem) k) Q) := by
  unfold heldAny
  iintro ⟨Hs, Hd, Hv⟩ Hk
  icases Hd with ⟨%Y, Hd⟩
  unfold held
  iapply (Transfers.wp_dmaLocal EC 𝒱 c bd (fs := src.view.rep X) (fd := dst.view.rep Y) (q := q) (Sd := dst.view.set) ι N hN hN0 (Finset.Subset.refl _)) $$ [Hs Hd Hv]
  · isplitl [Hs]; · iexact Hs
    isplitl [Hd]; · iexact Hd
    iexact Hv
  iintro Hf
  iapply Hk
  iapply (Transfers.Flight_mono EC c ?_) $$ Hf
  refine sep_mono (held_of (X := X) c dst fullShare _ ?_) .rfl
  rw [View.read_write_univ]
  exact View.read_rep _ _

/-- A transfer to another device between held pieces, as the two rounds it pays: the source's share comes back through
    the sender's own cell, the destination showing the source's values goes through the receiver's. -/
theorem wp_send {E : Emb (Rounds.URounds (GSem nD τ sig) D) (MT nD τ sig Ix Val Name U Lvl)} [Infinite Name] [E.LandsIn (upEmb : UEmb _ (MT nD τ sig Ix Val Name U Lvl))]
    (Rd : Rounds.Schedule (GSem nD τ sig) D (MT nD τ sig Ix Val Name U Lvl))
    [∀ g r d, BI.Storable (upEmb : UEmb _ (MT nD τ sig Ix Val Name U Lvl)) (Rd.payload g r d)]
    {c' : Thread nD τ} {sp sp' : Space} {src : Memref sig c.2.kind sp s e} {dst : Memref sig c'.2.kind sp' s e} {hsc : dst.view.ref.isScScratch = false}
    {sS sem : SemLoc sig} {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {d : D} {κ₁ κ₂ : Name}
    (hd₁ : d ∈ Rd.duties (c, sS) 0) (hd₂ : d ∈ Rd.duties (c', sem) 0) (ι : Ix) (N : ℕ) (hN : dst.view.amount sem = N)
    (hk₁ : Rd.amount (c, sS) 0 d = N) (hk₂ : Rd.amount (c', sem) 0 d = N) (O : CellTallies nD τ sig Ix) {W : Waits sig Ix}
    (hpay₁ : held c src q X ⊢ Rd.payload (c, sS) 0 d) (hpay₂ : held c' dst fullShare X ⊢ Rd.payload (c', sem) 0 d) (hr : τ.routes c c' = true) :
    iprop(Rounds.cellInv E Rd κ₁ (c, sS) ∗ Rounds.cellInv E Rd κ₂ (c', sem) ∗ held c src q X ∗ heldAny c' dst ∗ owes c (O + tallyAt (c', sem) ι N) W
        ∗ Rounds.dutyTok E (c, sS) 0 d ∗ Rounds.reached E (c, sS) 0 ∗ Rounds.dutyTok E (c', sem) 0 d ∗ Rounds.reached E (c', sem) 0)
      ⊢ iprop(((cred (tallyAt (c, sS) ι N) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  iintro ⟨Hi1, Hi2, Hs, Hd, HO, Ht1, Hr1, Ht2, Hr2⟩ Hk
  unfold heldAny
  icases Hd with ⟨%Y, Hd⟩
  iapply (Rounds.wp_send_pointsTo (Γ := .empty) 𝒱 E Rd c bd (fs := src.view.rep X) (fd := dst.view.rep Y) (q := q) hd₁ hd₂ ι ι N hN hk₁ hk₂ O rfl hpay₁
    ((held_of (X := X) c' dst fullShare _ (by rw [View.read_write_univ]; exact View.read_rep _ _)).trans hpay₂) hr) $$ [Hi1 Hi2 Hs Hd HO Ht1 Hr1 Ht2 Hr2]
  · unfold held
    isplitl [Hi1]; · iexact Hi1
    isplitl [Hi2]; · iexact Hi2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

end Rules

end Cert.Held
-- ==== Proof.Steps.lean ====
/-
  The kernel body as a sequence of uniform steps: the views every step reads and writes, named by slab and chunk, the
  steps themselves, and the equality of the printed body with their sequence.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Run

open Idealize.ShloMosaic Idealize.ShloMosaic.TcCoe Idealize.SL.Sem
open Cert.KernelIdeal.Gen

variable {F : FTy → Type} [FloatOps F]

/-! ## The arrays and their pieces -/

/-- The device's block of `x`. -/
abbrev xM : Memref sig .tc .hbm S4096x1024 .f32 := Memref.whole main_arg0
/-- The device's copy of `w`. -/
abbrev wM : Memref sig .tc .hbm S4096x2048 .f32 := Memref.whole main_arg1
/-- The staging buffer of the result. -/
abbrev outM : Memref sig .tc .vmem S1024x2048 .f32 := Memref.whole cc0_stg0_0
/-- The two slots a chunk of `x` is fetched to. -/
abbrev xsM : Memref sig .tc .vmem S2x256x1024 .f32 := Memref.whole cc0_scratch0
/-- The chunks to send, one slab per destination. -/
abbrev xbM : Memref sig .tc .vmem S3x1024x1024 .bf16 := Memref.whole cc0_scratch1
/-- The chunks received, one slab per source. -/
abbrev xvM : Memref sig .tc .vmem S3x1024x1024 .bf16 := Memref.whole cc0_scratch2
/-- The device's own rows of its block of `x`. -/
abbrev xmM : Memref sig .tc .vmem S1024x1024 .f32 := Memref.whole cc0_scratch3
/-- Three slots for row blocks of `w`. -/
abbrev wvM : Memref sig .tc .vmem S3x1024x2048 .f32 := Memref.whole cc0_scratch4
/-- The four devices' largest magnitudes, one row each. -/
abbrev axM : Memref sig .tc .vmem S4x128 .f32 := Memref.whole cc0_scratch5

theorem inb_xs : ∀ s : Fin 2, ∀ a, (![s.val, 0, 0] : Fin 3 → ℕ) a + S1x256x1024.size a ≤ S2x256x1024.size a := by decide
theorem inb_slab : ∀ (d : Fin 3) (r : Fin 4), ∀ a, (![d.val, 256 * r.val, 0] : Fin 3 → ℕ) a + S1x256x1024.size a ≤ S3x1024x1024.size a := by decide
theorem inb_wv : ∀ s : Fin 3, ∀ a, (![s.val, 0, 0] : Fin 3 → ℕ) a + S1x1024x2048.size a ≤ S3x1024x2048.size a := by decide
theorem inb_out : ∀ r : Fin 4, ∀ a, (![256 * r.val, 0] : Fin 2 → ℕ) a + S256x2048.size a ≤ S1024x2048.size a := by decide
theorem inb_s34 : ∀ (d : Fin 3) (r : Fin 4), ∀ a, (![d.val, r.val] : Fin 2 → ℕ) a + S1x1.size a ≤ S3x4.size a := by decide
theorem inb_s3 : ∀ d : Fin 3, ∀ a, (![d.val] : Fin 1 → ℕ) a + S1.size a ≤ S3.size a := by decide
theorem inb_s2 : ∀ d : Fin 2, ∀ a, (![d.val] : Fin 1 → ℕ) a + S1.size a ≤ S2.size a := by decide

/-- Slot `s` of the fetch buffer. -/
abbrev xsR (s : Fin 2) : Rect S2x256x1024 := Rect.unit ![s.val, 0, 0] S1x256x1024.size (inb_xs s)
/-- Chunk `r` of slab `d`. -/
abbrev slabR (d : Fin 3) (r : Fin 4) : Rect S3x1024x1024 := Rect.unit ![d.val, 256 * r.val, 0] S1x256x1024.size (inb_slab d r)
/-- Slot `s` of the buffer of `w`. -/
abbrev wvR (s : Fin 3) : Rect S3x1024x2048 := Rect.unit ![s.val, 0, 0] S1x1024x2048.size (inb_wv s)
/-- Rows `[256 r, 256 r + 256)` of the result. -/
abbrev outR (r : Fin 4) : Rect S1024x2048 := Rect.unit ![256 * r.val, 0] S256x2048.size (inb_out r)

abbrev xsV (s : Fin 2) : Memref sig .tc .vmem S256x1024 .f32 := (xsM.slice (xsR s) fun _ => rfl).squeeze S256x1024 squeezes_S1x256x1024_S256x1024
abbrev xbV (d : Fin 3) (r : Fin 4) : Memref sig .tc .vmem S256x1024 .bf16 := (xbM.slice (slabR d r) fun _ => rfl).squeeze S256x1024 squeezes_S1x256x1024_S256x1024
abbrev xvV (d : Fin 3) (r : Fin 4) : Memref sig .tc .vmem S256x1024 .bf16 := (xvM.slice (slabR d r) fun _ => rfl).squeeze S256x1024 squeezes_S1x256x1024_S256x1024
abbrev wvV (s : Fin 3) : Memref sig .tc .vmem S1024x2048 .f32 := (wvM.slice (wvR s) fun _ => rfl).squeeze S1024x2048 squeezes_S1x1024x2048_S1024x2048

/-- The chunk `r` of `x` that device `c` sends to the device `d + 1` ahead. -/
abbrev xC (c : Dev nD) (d : Fin 3) (r : Fin 4) : Memref sig .tc .hbm S256x1024 .f32 :=
  xM.slice (Rect.unit (k0_off1 c (BitVec.ofNat 32 (1 + d.val)) (BitVec.ofNat 32 (256 * r.val))) S256x1024.size (k0_off1_inb c d r)) fun _ => rfl
/-- The rows of `x` that device `c` keeps. -/
abbrev xO (c : Dev nD) : Memref sig .tc .hbm S1024x1024 .f32 :=
  xM.slice (Rect.unit (k0_off2 c) S1024x1024.size (k0_off2_inb c)) fun _ => rfl
/-- The rows of `w` that belong to device `c`'s own block of `x`. -/
abbrev wO (c : Dev nD) : Memref sig .tc .hbm S1024x2048 .f32 :=
  wM.slice (Rect.unit (k0_off3 c) S1024x2048.size (k0_off3_inb c)) fun _ => rfl
/-- The rows of `w` that belong to the block of the device `d + 1` behind. -/
abbrev wC (c : Dev nD) (d : Fin 3) : Memref sig .tc .hbm S1024x2048 .f32 :=
  wM.slice (Rect.unit (k0_off4 c (BitVec.ofNat 32 (1 + d.val))) S1024x2048.size (k0_off4_inb c d)) fun _ => rfl
/-- Device `c`'s row of the magnitudes. -/
abbrev axO (c : Dev nD) : Memref sig .tc .vmem S1x128 .f32 :=
  axM.slice (Rect.unit (k0_off6 c) S1x128.size (k0_off6_inb c)) fun _ => rfl
/-- The row of the device `d + 1` behind. -/
abbrev axC (c : Dev nD) (d : Fin 3) : Memref sig .tc .vmem S1x128 .f32 :=
  axM.slice (Rect.unit (k0_off7 c (BitVec.ofNat 32 (1 + d.val))) S1x128.size (k0_off7_inb c d)) fun _ => rfl

/-! ## The semaphores -/

abbrev barS : Sem sig := (SemArray.scalar (sig.barrier 0 rfl) : Sems sig S_).sem
abbrev sendS (d : Fin 3) (r : Fin 4) : DmaSem sig := ((cc0_scratch6.slice (Rect.unit (s := S3x4) ![d.val, r.val] S1x1.size (inb_s34 d r))).squeeze S_ squeezes_S1x1_S_).sem
abbrev recvS (d : Fin 3) (r : Fin 4) : DmaSem sig := ((cc0_scratch7.slice (Rect.unit (s := S3x4) ![d.val, r.val] S1x1.size (inb_s34 d r))).squeeze S_ squeezes_S1x1_S_).sem
abbrev axsS (d : Fin 3) : DmaSem sig := ((cc0_scratch8.slice (Rect.unit (s := S3) ![d.val] S1.size (inb_s3 d))).squeeze S_ squeezes_S1_S_).sem
abbrev axrS (d : Fin 3) : DmaSem sig := ((cc0_scratch9.slice (Rect.unit (s := S3) ![d.val] S1.size (inb_s3 d))).squeeze S_ squeezes_S1_S_).sem
abbrev wdS (d : Fin 3) : DmaSem sig := ((cc0_scratch10.slice (Rect.unit (s := S3) ![d.val] S1.size (inb_s3 d))).squeeze S_ squeezes_S1_S_).sem
abbrev xdS : DmaSem sig := cc0_scratch11.sem
abbrev sdS (s : Fin 2) : DmaSem sig := ((cc0_scratch12.slice (Rect.unit (s := S2) ![s.val] S1.size (inb_s2 s))).squeeze S_ squeezes_S1_S_).sem

/-! ## Word facts -/

theorem words_slab : ∀ (d : Fin 3) (r : Fin 4), (slabR d r).WholeWords (EltTy.packing .bf16) := by decide
theorem packed_slab : ∀ (d : Fin 3) (r : Fin 4), (slabR d r).PackedRows (EltTy.packing .bf16) := by decide
theorem xb_exact (d : Fin 3) (r : Fin 4) : (xbV d r).view.WordExact :=
  ((Memref.isWhole_whole cc0_scratch1).wordExact_slice rfl _ (words_slab d r)).reshape _ _
theorem xv_exact (d : Fin 3) (r : Fin 4) : (xvV d r).view.WordExact :=
  ((Memref.isWhole_whole cc0_scratch2).wordExact_slice rfl _ (words_slab d r)).reshape _ _

/-! ## What the steps compute -/

/-- A fetched chunk narrowed for the wire. -/
def narrow (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024
/-- A chunk of the result with the product of a received chunk and a row block of `w` added. -/
def addProd (o : Vec F S256x2048 .f32) (v : Vec F S1x256x1024 .bf16) (w : Vec F S1x1024x2048 .f32) : FVec F S256x2048 .f32 :=
  addf (shapeCast S256x2048 o shapeCasts_S256x2048_S256x2048)
    (matmul dot_S256x1024_S1024x2048_S256x2048_1_0_0_1_n_n none (extf .f32 (shapeCast S256x1024 v shapeCasts_S1x256x1024_S256x1024) bitsLt_bf16_f32)
      (shapeCast S1024x2048 w shapeCasts_S1x1024x2048_S1024x2048) (constant S256x2048 .f32 0x00000000#32))

/-! ## The steps -/

/-- A program of the kernel. -/
abbrev P := Prog (TpuEff nD τ sig (Elt F) Λ₀ .tc) PUnit

/-- Tell the device `n` that this one has entered. -/
def sig1 (n : Dev nD) (k : P (F := F)) : P (F := F) := .op (.semSignal (n.tc : Thread nD τ) barS 1) fun _ => k
/-- Wait for the three others. -/
def waitBar (k : P (F := F)) : P (F := F) := .op (.semWait barS 3) fun _ => k
/-- Start the fetch of chunk `r` for slab `d` into slot `s`. -/
def fetch (c : Dev nD) (d : Fin 3) (r : Fin 4) (s : Fin 2) (k : P (F := F)) : P (F := F) :=
  .op (.enqueueDma (xC c d r) (.here (xsV s)) (.dma (sdS s)) (View.wordExact_bits rfl) ((View.wordExact_bits rfl).reshape _ _) ⟨Or.inl rfl, trivial⟩) fun _ => k
/-- Start the fetch of the device's own rows of `x`. -/
def fetchX (c : Dev nD) (k : P (F := F)) : P (F := F) :=
  .op (.enqueueDma (xO c) (.here xmM) (.dma xdS) (View.wordExact_bits rfl) (Memref.isWhole_whole cc0_scratch3).wordExact ⟨Or.inl rfl, trivial⟩) fun _ => k
/-- Start the fetch of a row block of `w` into slot `s`. -/
def fetchW (m : Memref sig .tc .hbm S1024x2048 .f32) (hm : m.view.WordExact) (s : Fin 3) (k : P (F := F)) : P (F := F) :=
  .op (.enqueueDma m (.here (wvV s)) (.dma (wdS s)) hm ((View.wordExact_bits rfl).reshape _ _) ⟨Or.inl rfl, trivial⟩) fun _ => k
/-- Wait for the fetch to slot `s`, and narrow the chunk into slab `d`. -/
def pack (c : Dev nD) (d : Fin 3) (r : Fin 4) (s : Fin 2) (k : P (F := F)) : P (F := F) :=
  .op (.waitDma2 (sdS s) (xC c d r) (xsV s) (View.wordExact_bits rfl) ((View.wordExact_bits rfl).reshape _ _)) fun _ =>
  .op (.load xsM (xsR s).toLoadRect (View.loadsAt_vmem h_S1x256x1024)) fun (v : Vec F S1x256x1024 .f32) =>
  .op (.load xbM (slabR d r).toLoadRect (View.loadsAt_vmem h_S1x256x1024)) fun (_ : Vec F S1x256x1024 .bf16) =>
  .op (.store xbM (slabR d r) (narrow v) Finset.univ
    (View.stores_vmem h_S1x256x1024 ((Memref.isWhole_whole cc0_scratch1).storeExact_slice rfl _ (packed_slab d r)) (fun _ => rfl)) (.inl rfl)) fun _ => k
/-- Send chunk `r` of slab `d` to the device `n`. -/
def send (n : Dev nD) (d : Fin 3) (r : Fin 4) (k : P (F := F)) : P (F := F) :=
  .op (.enqueueDma (xbV d r) (.remote (Dev.tc n) (xvV d r) (.dma (sendS d r))) (.dma (recvS d r)) (xb_exact d r) (xv_exact d r) ⟨⟨rfl, Or.inl rfl⟩, trivial⟩) fun _ => k
/-- Wait for the device's own rows of `x` and of `w`, and put their product into the result. -/
def ownProd (c : Dev nD) (k : P (F := F)) : P (F := F) :=
  .op (.waitDma2 xdS (xO c) xmM (View.wordExact_bits rfl) (Memref.isWhole_whole cc0_scratch3).wordExact) fun _ =>
  .op (.waitDma2 (wdS 0) (wO c) (wvV 0) (View.wordExact_bits rfl) ((View.wordExact_bits rfl).reshape _ _)) fun _ =>
  .op (.load xmM (Rect.unit (s := S1024x1024) ![0, 0] S1024x1024.size inb_S1024x1024_S1024x1024_0_0).toLoadRect (View.loadsAt_vmem h_S1024x1024)) fun (v : Vec F S1024x1024 .f32) =>
  .op (.load wvM (wvR 0).toLoadRect (View.loadsAt_vmem h_S1x1024x2048)) fun (w : Vec F S1x1024x2048 .f32) =>
  .op (.load outM (Rect.unit (s := S1024x2048) ![0, 0] S1024x2048.size inb_S1024x2048_S1024x2048_0_0).toLoadRect (View.loadsAt_vmem h_S1024x2048)) fun (_ : Vec F S1024x2048 .f32) =>
  .op (.store outM (Rect.unit (s := S1024x2048) ![0, 0] S1024x2048.size inb_S1024x2048_S1024x2048_0_0) (k0_pay16 v w) Finset.univ (View.stores_vmem_bits_univ h_S1024x2048 rfl) (.inl rfl)) fun _ => k
/-- Wait for the fetch of a row block of `w` into slot `s`. -/
def waitW (m : Memref sig .tc .hbm S1024x2048 .f32) (hm : m.view.WordExact) (s : Fin 3) (k : P (F := F)) : P (F := F) :=
  .op (.waitDma2 (wdS s) m (wvV s) hm ((View.wordExact_bits rfl).reshape _ _)) fun _ => k
/-- Wait for the received chunk `r` of slab `d`, and add its product with slot `s` of `w` to the result's chunk `r`. -/
def accum (d : Fin 3) (r : Fin 4) (s : Fin 3) (k : P (F := F)) : P (F := F) :=
  .op (.waitDma2 (recvS d r) (xvV d r) (xvV d r) (xv_exact d r) (xv_exact d r)) fun _ =>
  .op (.load outM (outR r).toLoadRect (View.loadsAt_vmem h_S256x2048)) fun (o : Vec F S256x2048 .f32) =>
  .op (.load xvM (slabR d r).toLoadRect (View.loadsAt_vmem h_S1x256x1024)) fun (v : Vec F S1x256x1024 .bf16) =>
  .op (.load wvM (wvR s).toLoadRect (View.loadsAt_vmem h_S1x1024x2048)) fun (w : Vec F S1x1024x2048 .f32) =>
  .op (.load outM (outR r).toLoadRect (View.loadsAt_vmem h_S256x2048)) fun (_ : Vec F S256x2048 .f32) =>
  .op (.store outM (outR r) (addProd o v w) Finset.univ (View.stores_vmem_bits_univ h_S256x2048 rfl) (.inl rfl)) fun _ => k
/-- Read chunk `r` of the result. -/
def readOut (r : Fin 4) (k : Vec F S256x2048 .f32 → P (F := F)) : P (F := F) :=
  .op (.load outM (outR r).toLoadRect (View.loadsAt_vmem h_S256x2048)) k
/-- Wait for the send of chunk `r` of slab `d`. -/
def waitSend (d : Fin 3) (r : Fin 4) (k : P (F := F)) : P (F := F) :=
  .op (.waitDma2 (sendS d r) (xvV d r) (xbV d r) (xv_exact d r) (xb_exact d r)) fun _ => k
/-- Put the device's largest magnitude into its row. -/
def putMax (c : Dev nD) (v : FVec F S1x128 .f32) (k : P (F := F)) : P (F := F) :=
  .op (.load axM (Rect.unit (s := S4x128) (k0_off5 c) S1x128.size (k0_off5_inb c)).toLoadRect (View.loadsAt_vmem h_S1x128)) fun (_ : Vec F S1x128 .f32) =>
  .op (.store axM (Rect.unit (s := S4x128) (k0_off5 c) S1x128.size (k0_off5_inb c)) v Finset.univ (View.stores_vmem_bits_univ h_S1x128 rfl) (.inl rfl)) fun _ => k
/-- Send the device's row to the device `n`. -/
def sendMax (c n : Dev nD) (d : Fin 3) (k : P (F := F)) : P (F := F) :=
  .op (.enqueueDma (axO c) (.remote (Dev.tc n) (axO c) (.dma (axsS d))) (.dma (axrS d)) (View.wordExact_bits rfl) (View.wordExact_bits rfl) ⟨⟨rfl, Or.inl rfl⟩, trivial⟩) fun _ => k
/-- Wait for the row of the device `d + 1` behind. -/
def waitMax (c : Dev nD) (d : Fin 3) (k : P (F := F)) : P (F := F) :=
  .op (.waitDma2 (axrS d) (axC c d) (axC c d) (View.wordExact_bits rfl) (View.wordExact_bits rfl)) fun _ => k
/-- Wait for the send of the row to the device `d + 1` ahead. -/
def waitMaxSend (c : Dev nD) (d : Fin 3) (k : P (F := F)) : P (F := F) :=
  .op (.waitDma2 (axsS d) (axO c) (axO c) (View.wordExact_bits rfl) (View.wordExact_bits rfl)) fun _ => k
/-- Read the four rows and the result, and put the quantised result back. -/
def finish : P (F := F) :=
  .op (.load axM (Rect.unit (s := S4x128) ![0, 0] S4x128.size inb_S4x128_S4x128_0_0).toLoadRect (View.loadsAt_vmem h_S4x128)) fun (a : Vec F S4x128 .f32) =>
  .op (.load outM (Rect.unit (s := S1024x2048) ![0, 0] S1024x2048.size inb_S1024x2048_S1024x2048_0_0).toLoadRect (View.loadsAt_vmem h_S1024x2048)) fun (o : Vec F S1024x2048 .f32) =>
  .op (.load outM (Rect.unit (s := S1024x2048) ![0, 0] S1024x2048.size inb_S1024x2048_S1024x2048_0_0).toLoadRect (View.loadsAt_vmem h_S1024x2048)) fun (_ : Vec F S1024x2048 .f32) =>
  .op (.store outM (Rect.unit (s := S1024x2048) ![0, 0] S1024x2048.size inb_S1024x2048_S1024x2048_0_0) (k0_pay1 (k0_pay37 a) (k0_pay38 a o)) Finset.univ (View.stores_vmem_bits_univ h_S1024x2048 rfl) (.inl rfl)) fun _ => .ret ⟨⟩

/-! ## The body -/

/-- Add the three received chunks `r` to the result and read it: `mid` is done before the last of the three. -/
def chunk (r : Fin 4) (mid : P (F := F) → P (F := F)) (k : Vec F S256x2048 .f32 → P (F := F)) : P (F := F) :=
  accum 0 r 1 <| accum 2 r 2 <| mid <| accum 1 r 0 <| readOut r k

/-- After the sums: wait for the sends, exchange the magnitudes, and finish. -/
def tailP (c : Dev nD) (v : FVec F S1x128 .f32) : P (F := F) :=
  waitSend 0 0 <| waitSend 2 0 <| waitSend 1 0 <| waitSend 0 1 <| waitSend 2 1 <| waitSend 1 1 <|
  waitSend 0 2 <| waitSend 2 2 <| waitSend 1 2 <| waitSend 0 3 <| waitSend 2 3 <| waitSend 1 3 <|
  putMax c v <|
  sendMax c ⟨k0_dev16 c, k0_dev16_lt c⟩ 0 <| sendMax c ⟨k0_dev17 c, k0_dev17_lt c⟩ 1 <| sendMax c ⟨k0_dev18 c, k0_dev18_lt c⟩ 2 <|
  waitMax c 0 <| waitMax c 1 <| waitMax c 2 <| waitMaxSend c 0 <| waitMaxSend c 1 <| waitMaxSend c 2 finish

/-- The products: the device's own, then the received chunks'. -/
def sumsP (c : Dev nD) : P (F := F) :=
  ownProd c <| fetchW (wC c 1) (View.wordExact_bits rfl) 0 <|
  waitW (wC c 0) (View.wordExact_bits rfl) 1 <| waitW (wC c 2) (View.wordExact_bits rfl) 2 <|
  chunk 0 (waitW (wC c 1) (View.wordExact_bits rfl) 0) fun o0 => chunk 1 id fun o1 => chunk 2 id fun o2 => chunk 3 id fun o3 =>
  tailP c (k0_pay36 (k0_pay20 o0) (k0_pay20 o1) (k0_pay20 o2) (k0_pay20 o3))

/-- The twelve chunks narrowed and sent, the fetches two ahead. -/
def sendsP (c : Dev nD) (k : P (F := F)) : P (F := F) :=
  pack c 0 0 0 <| fetch c 1 0 0 <| send ⟨k0_dev4 c, k0_dev4_lt c⟩ 0 0 <|
  pack c 2 0 1 <| fetch c 0 1 1 <| send ⟨k0_dev5 c, k0_dev5_lt c⟩ 2 0 <|
  pack c 1 0 0 <| fetch c 2 1 0 <| send ⟨k0_dev6 c, k0_dev6_lt c⟩ 1 0 <|
  pack c 0 1 1 <| fetch c 1 1 1 <| send ⟨k0_dev7 c, k0_dev7_lt c⟩ 0 1 <|
  pack c 2 1 0 <| fetch c 0 2 0 <| send ⟨k0_dev8 c, k0_dev8_lt c⟩ 2 1 <|
  pack c 1 1 1 <| fetch c 2 2 1 <| send ⟨k0_dev9 c, k0_dev9_lt c⟩ 1 1 <|
  pack c 0 2 0 <| fetch c 1 2 0 <| send ⟨k0_dev10 c, k0_dev10_lt c⟩ 0 2 <|
  pack c 2 2 1 <| fetch c 0 3 1 <| send ⟨k0_dev11 c, k0_dev11_lt c⟩ 2 2 <|
  pack c 1 2 0 <| fetch c 2 3 0 <| send ⟨k0_dev12 c, k0_dev12_lt c⟩ 1 2 <|
  pack c 0 3 1 <| fetch c 1 3 1 <| send ⟨k0_dev13 c, k0_dev13_lt c⟩ 0 3 <|
  pack c 2 3 0 <| send ⟨k0_dev14 c, k0_dev14_lt c⟩ 2 3 <|
  pack c 1 3 1 <| send ⟨k0_dev15 c, k0_dev15_lt c⟩ 1 3 k

/-- The entry: the barrier and the first fetches. -/
def enterP (c : Dev nD) (k : P (F := F)) : P (F := F) :=
  sig1 ⟨k0_dev1 c, k0_dev1_lt c⟩ <| sig1 ⟨k0_dev2 c, k0_dev2_lt c⟩ <| sig1 ⟨k0_dev3 c, k0_dev3_lt c⟩ <| waitBar <|
  fetch c 0 0 0 <| fetch c 2 0 1 <| fetchX c <| fetchW (wO c) (View.wordExact_bits rfl) 0 <|
  fetchW (wC c 0) (View.wordExact_bits rfl) 1 <| fetchW (wC c 2) (View.wordExact_bits rfl) 2 k

/-- The body's steps. -/
def bodyP : P (F := F) := .op .deviceId fun c => enterP c <| sendsP c <| sumsP c

set_option maxRecDepth 65536 in
/-- The printed body is the sequence of the steps. -/
theorem body_eq : cc0_body (F := F) (Memref.whole main_arg0) (Memref.isWhole_whole _) (Memref.whole main_arg1) (Memref.isWhole_whole _)
    (Memref.whole cc0_stg0_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10 cc0_scratch11 cc0_scratch12
    = bodyP := rfl

end Cert.KernelIdeal.Run

end
-- ==== Proof.Contents.lean ====
/-
  What the run's arrays hold, as functions of the memory at launch: the chunks sent, the sums, the magnitudes, the result.
-/
module

public import proofs.«01_k».proof.Proof.Held
public import proofs.«01_k».proof.Proof.Steps
public import Idealize.ShloMosaic.Lib.Pipeline.Value

@[expose] public section

noncomputable section

namespace Cert.KernelIdeal.Run

open Idealize.ShloMosaic Idealize.ShloMosaic.TcCoe Idealize.SL.Sem
open Cert.KernelIdeal.Gen Cert.Held

variable {F : FTy → Type} [FloatOps F]

/-! ## The ring of devices -/

/-- The device `d + 1` ahead of `c`. -/
def nxt (c : Dev nD) (d : Fin 3) : Dev nD := ⟨(c.val + d.val + 1) % 4, Nat.mod_lt _ (by show 0 < 4; decide)⟩
/-- The distance that completes `d` to a full turn. -/
def rv : Fin 3 → Fin 3 := Fin.rev
/-- The device `d + 1` behind `c`. -/
def prv (c : Dev nD) (d : Fin 3) : Dev nD := nxt c (rv d)

theorem rv_rv (d : Fin 3) : rv (rv d) = d := Fin.rev_rev d
theorem nxt_prv : ∀ (c : Dev nD) (d : Fin 3), nxt (prv c d) d = c := by decide
theorem prv_nxt : ∀ (c : Dev nD) (d : Fin 3), prv (nxt c d) d = c := by decide
theorem nxt_rv (c : Dev nD) (d : Fin 3) : nxt (nxt c d) (rv d) = c := prv_nxt c d
theorem nxt_cover : ∀ c p : Dev nD, p = c ∨ ∃ d, p = nxt c d := by decide

/-- Going `d + 1` ahead is a rotation of the devices. -/
def turn (d : Fin 3) : Dev nD ≃ Dev nD := ⟨fun c => nxt c d, fun c => prv c d, fun c => prv_nxt c d, fun c => nxt_prv c d⟩

theorem dev1_eq (c : Dev nD) : (⟨k0_dev1 c, k0_dev1_lt c⟩ : Dev nD) = nxt c 0 := Fin.ext (k0_dev1_eq c)
theorem dev2_eq (c : Dev nD) : (⟨k0_dev2 c, k0_dev2_lt c⟩ : Dev nD) = nxt c 1 := Fin.ext (k0_dev2_eq c)
theorem dev3_eq (c : Dev nD) : (⟨k0_dev3 c, k0_dev3_lt c⟩ : Dev nD) = nxt c 2 := Fin.ext (k0_dev3_eq c)
theorem dev4_eq (c : Dev nD) : (⟨k0_dev4 c, k0_dev4_lt c⟩ : Dev nD) = nxt c 0 := Fin.ext (k0_dev4_eq c)
theorem dev5_eq (c : Dev nD) : (⟨k0_dev5 c, k0_dev5_lt c⟩ : Dev nD) = nxt c 2 := Fin.ext (k0_dev5_eq c)
theorem dev6_eq (c : Dev nD) : (⟨k0_dev6 c, k0_dev6_lt c⟩ : Dev nD) = nxt c 1 := Fin.ext (k0_dev6_eq c)
theorem dev7_eq (c : Dev nD) : (⟨k0_dev7 c, k0_dev7_lt c⟩ : Dev nD) = nxt c 0 := Fin.ext (k0_dev7_eq c)
theorem dev8_eq (c : Dev nD) : (⟨k0_dev8 c, k0_dev8_lt c⟩ : Dev nD) = nxt c 2 := Fin.ext (k0_dev8_eq c)
theorem dev9_eq (c : Dev nD) : (⟨k0_dev9 c, k0_dev9_lt c⟩ : Dev nD) = nxt c 1 := Fin.ext (k0_dev9_eq c)
theorem dev10_eq (c : Dev nD) : (⟨k0_dev10 c, k0_dev10_lt c⟩ : Dev nD) = nxt c 0 := Fin.ext (k0_dev10_eq c)
theorem dev11_eq (c : Dev nD) : (⟨k0_dev11 c, k0_dev11_lt c⟩ : Dev nD) = nxt c 2 := Fin.ext (k0_dev11_eq c)
theorem dev12_eq (c : Dev nD) : (⟨k0_dev12 c, k0_dev12_lt c⟩ : Dev nD) = nxt c 1 := Fin.ext (k0_dev12_eq c)
theorem dev13_eq (c : Dev nD) : (⟨k0_dev13 c, k0_dev13_lt c⟩ : Dev nD) = nxt c 0 := Fin.ext (k0_dev13_eq c)
theorem dev14_eq (c : Dev nD) : (⟨k0_dev14 c, k0_dev14_lt c⟩ : Dev nD) = nxt c 2 := Fin.ext (k0_dev14_eq c)
theorem dev15_eq (c : Dev nD) : (⟨k0_dev15 c, k0_dev15_lt c⟩ : Dev nD) = nxt c 1 := Fin.ext (k0_dev15_eq c)
theorem dev16_eq (c : Dev nD) : (⟨k0_dev16 c, k0_dev16_lt c⟩ : Dev nD) = nxt c 0 := Fin.ext (k0_dev16_eq c)
theorem dev17_eq (c : Dev nD) : (⟨k0_dev17 c, k0_dev17_lt c⟩ : Dev nD) = nxt c 1 := Fin.ext (k0_dev17_eq c)
theorem dev18_eq (c : Dev nD) : (⟨k0_dev18 c, k0_dev18_lt c⟩ : Dev nD) = nxt c 2 := Fin.ext (k0_dev18_eq c)

/-! ## The rows of the magnitudes -/

theorem inb_row : ∀ p : Dev nD, ∀ a, (![p.val, 0] : Fin 2 → ℕ) a + S1x128.size a ≤ S4x128.size a := by decide
/-- Row `p` of the magnitudes. -/
abbrev rowR (p : Dev nD) : Rect S4x128 := Rect.unit ![p.val, 0] S1x128.size (inb_row p)
abbrev axRow (p : Dev nD) : Memref sig .tc .vmem S1x128 .f32 := axM.slice (rowR p) fun _ => rfl

theorem slice_off {off off' : Fin S4x128.rank → ℕ} (h : off = off') (i : ∀ a, off a + S1x128.size a ≤ S4x128.size a)
    (i' : ∀ a, off' a + S1x128.size a ≤ S4x128.size a) :
    (axM.slice (Rect.unit off S1x128.size i) fun _ => rfl : Memref sig .tc .vmem S1x128 .f32) = axM.slice (Rect.unit off' S1x128.size i') fun _ => rfl := by
  subst h; rfl
/-- The row a device writes and sends is its own; -/
theorem axO_eq (c : Dev nD) : axO c = axRow c := slice_off (k0_off6_eq c) _ _
/-- the row it waits for is that of the device it comes from. -/
theorem axC_eq (c : Dev nD) (d : Fin 3) : axC c d = axRow (prv c d) := slice_off ((k0_off7_eq c d).trans (by revert c d; decide)) _ _

/-! ## How the arrays are cut -/

theorem rect_cut {s : Shape} {off off' size : Fin s.rank → ℕ} {i : ∀ a, off a + size a ≤ s.size a} {i' : ∀ a, off' a + size a ≤ s.size a}
    {y y'} (h : (Rect.unit off size i).emb y = (Rect.unit off' size i').emb y') (a : Fin s.rank) : off a + (y a).val = off' a + (y' a).val := by
  have := congrArg (fun z => (z a).val) h
  simpa [Rect.emb, Rect.unit] using this

theorem rect_cov {s : Shape} {off size : Fin s.rank → ℕ} {inb : ∀ a, off a + size a ≤ s.size a} (i : s.Idx)
    (h : ∀ a, off a ≤ (i a).val ∧ (i a).val < off a + size a) : ∃ y, (Rect.unit off size inb).emb y = i := by
  refine ⟨fun a => ⟨(i a).val - off a, by have := h a; show _ < size a; omega⟩, funext fun a => Fin.ext ?_⟩
  have := (h a).1
  show off a + 1 * ((i a).val - off a) = (i a).val
  omega

theorem xs_dis (t t' : Fin 2) (i i') (h : (xsR t).emb i = (xsR t').emb i') : t = t' := by
  have h0 : t.val + (i (0 : Fin 3)).val = t'.val + (i' (0 : Fin 3)).val := rect_cut h (0 : Fin 3)
  have h1 : (i (0 : Fin 3)).val < 1 := (i (0 : Fin 3)).isLt
  have h2 : (i' (0 : Fin 3)).val < 1 := (i' (0 : Fin 3)).isLt
  exact Fin.ext (by omega)
theorem xs_cov (i : S2x256x1024.Idx) : ∃ t y, (xsR t).emb y = i :=
  ⟨i (0 : Fin 3), rect_cov i fun a => match a with
    | ⟨0, _⟩ => ⟨le_refl _, Nat.lt_succ_self _⟩
    | ⟨1, _⟩ => ⟨Nat.zero_le _, (i (1 : Fin 3)).isLt.trans_eq (Nat.zero_add _).symm⟩
    | ⟨2, _⟩ => ⟨Nat.zero_le _, (i (2 : Fin 3)).isLt.trans_eq (Nat.zero_add _).symm⟩⟩

theorem wv_dis (t t' : Fin 3) (i i') (h : (wvR t).emb i = (wvR t').emb i') : t = t' := by
  have h0 : t.val + (i (0 : Fin 3)).val = t'.val + (i' (0 : Fin 3)).val := rect_cut h (0 : Fin 3)
  have h1 : (i (0 : Fin 3)).val < 1 := (i (0 : Fin 3)).isLt
  have h2 : (i' (0 : Fin 3)).val < 1 := (i' (0 : Fin 3)).isLt
  exact Fin.ext (by omega)
theorem wv_cov (i : S3x1024x2048.Idx) : ∃ t y, (wvR t).emb y = i :=
  ⟨i (0 : Fin 3), rect_cov i fun a => match a with
    | ⟨0, _⟩ => ⟨le_refl _, Nat.lt_succ_self _⟩
    | ⟨1, _⟩ => ⟨Nat.zero_le _, (i (1 : Fin 3)).isLt.trans_eq (Nat.zero_add _).symm⟩
    | ⟨2, _⟩ => ⟨Nat.zero_le _, (i (2 : Fin 3)).isLt.trans_eq (Nat.zero_add _).symm⟩⟩

theorem row_dis (t t' : Dev nD) (i i') (h : (rowR t).emb i = (rowR t').emb i') : t = t' := by
  have h0 : t.val + (i (0 : Fin 2)).val = t'.val + (i' (0 : Fin 2)).val := rect_cut h (0 : Fin 2)
  have h1 : (i (0 : Fin 2)).val < 1 := (i (0 : Fin 2)).isLt
  have h2 : (i' (0 : Fin 2)).val < 1 := (i' (0 : Fin 2)).isLt
  exact Fin.ext (by omega)
theorem row_cov (i : S4x128.Idx) : ∃ t y, (rowR t).emb y = i :=
  ⟨i (0 : Fin 2), rect_cov i fun a => match a with
    | ⟨0, _⟩ => ⟨le_refl _, Nat.lt_succ_self _⟩
    | ⟨1, _⟩ => ⟨Nat.zero_le _, (i (1 : Fin 2)).isLt.trans_eq (Nat.zero_add _).symm⟩⟩

theorem out_dis (t t' : Fin 4) (i i') (h : (outR t).emb i = (outR t').emb i') : t = t' := by
  have h0 : 256 * t.val + (i (0 : Fin 2)).val = 256 * t'.val + (i' (0 : Fin 2)).val := rect_cut h (0 : Fin 2)
  have h1 : (i (0 : Fin 2)).val < 256 := (i (0 : Fin 2)).isLt
  have h2 : (i' (0 : Fin 2)).val < 256 := (i' (0 : Fin 2)).isLt
  exact Fin.ext (by omega)
theorem out_cov (i : S1024x2048.Idx) : ∃ t y, (outR t).emb y = i := by
  have hi : (i (0 : Fin 2)).val < 1024 := (i (0 : Fin 2)).isLt
  refine ⟨⟨(i (0 : Fin 2)).val / 256, by omega⟩, rect_cov i fun a => match a with
    | ⟨0, _⟩ => ?_
    | ⟨1, _⟩ => ⟨Nat.zero_le _, (i (1 : Fin 2)).isLt.trans_eq (Nat.zero_add _).symm⟩⟩
  show 256 * ((i (0 : Fin 2)).val / 256) ≤ (i (0 : Fin 2)).val ∧ (i (0 : Fin 2)).val < 256 * ((i (0 : Fin 2)).val / 256) + 256
  omega

/-- The chunk `p.2` of slab `p.1`, the twelve of an array of three slabs as one family. -/
abbrev chunkR (p : Fin 3 × Fin 4) : Rect S3x1024x1024 := slabR p.1 p.2
theorem chunk_dis (t t' : Fin 3 × Fin 4) (i i') (h : (chunkR t).emb i = (chunkR t').emb i') : t = t' := by
  have h0 : t.1.val + (i (0 : Fin 3)).val = t'.1.val + (i' (0 : Fin 3)).val := rect_cut h (0 : Fin 3)
  have h1 : (i (0 : Fin 3)).val < 1 := (i (0 : Fin 3)).isLt
  have h2 : (i' (0 : Fin 3)).val < 1 := (i' (0 : Fin 3)).isLt
  have g0 : 256 * t.2.val + (i (1 : Fin 3)).val = 256 * t'.2.val + (i' (1 : Fin 3)).val := rect_cut h (1 : Fin 3)
  have g1 : (i (1 : Fin 3)).val < 256 := (i (1 : Fin 3)).isLt
  have g2 : (i' (1 : Fin 3)).val < 256 := (i' (1 : Fin 3)).isLt
  exact Prod.ext (Fin.ext (by omega)) (Fin.ext (by omega))
theorem chunk_cov (i : S3x1024x1024.Idx) : ∃ t y, (chunkR t).emb y = i := by
  have hi : (i (1 : Fin 3)).val < 1024 := (i (1 : Fin 3)).isLt
  refine ⟨(i (0 : Fin 3), ⟨(i (1 : Fin 3)).val / 256, by omega⟩), rect_cov i fun a => match a with
    | ⟨0, _⟩ => ⟨le_refl _, Nat.lt_succ_self _⟩
    | ⟨1, _⟩ => ?_
    | ⟨2, _⟩ => ⟨Nat.zero_le _, (i (2 : Fin 3)).isLt.trans_eq (Nat.zero_add _).symm⟩⟩
  show 256 * ((i (1 : Fin 3)).val / 256) ≤ (i (1 : Fin 3)).val ∧ (i (1 : Fin 3)).val < 256 * ((i (1 : Fin 3)).val / 256) + 256
  omega

/-! ## What the arrays hold -/

variable (m : (ℓ : Loc nD τ sig) → Buf (Elt F) ℓ)

/-- The block of `x` and the copy of `w` on device `c` at launch. -/
def xAt (c : Dev nD) : S4096x1024.Idx → Elt F .f32 := m ((c.tc : Thread nD τ).loc main_arg0)
def wAt (c : Dev nD) : S4096x2048.Idx → Elt F .f32 := m ((c.tc : Thread nD τ).loc main_arg1)

/-- The chunk `r` that device `c` fetches for the device `d + 1` ahead, -/
def ck (c : Dev nD) (d : Fin 3) (r : Fin 4) : Vec F S256x1024 .f32 :=
  part (Rect.unit (s := S4096x1024) (k0_off1 c (BitVec.ofNat 32 (1 + d.val)) (BitVec.ofNat 32 (256 * r.val))) S256x1024.size (k0_off1_inb c d r)) (xAt m c)
/-- and as it is sent. -/
def sent (c : Dev nD) (d : Fin 3) (r : Fin 4) : FVec F S256x1024 .bf16 := truncf .bf16 (ck m c d r) bitsLt_bf16_f32
/-- The rows of `x` device `c` keeps. -/
def xo (c : Dev nD) : Vec F S1024x1024 .f32 := part (Rect.unit (s := S4096x1024) (k0_off2 c) S1024x1024.size (k0_off2_inb c)) (xAt m c)
/-- The rows of `w` for device `c`'s own block, -/
def wo (c : Dev nD) : Vec F S1024x2048 .f32 := part (Rect.unit (s := S4096x2048) (k0_off3 c) S1024x2048.size (k0_off3_inb c)) (wAt m c)
/-- and for the block of the device `d + 1` behind. -/
def wc (c : Dev nD) (d : Fin 3) : Vec F S1024x2048 .f32 :=
  part (Rect.unit (s := S4096x2048) (k0_off4 c (BitVec.ofNat 32 (1 + d.val))) S1024x2048.size (k0_off4_inb c d)) (wAt m c)

theorem sc_x : S256x1024.ShapeCasts S1x256x1024 := shapeCasts_S256x1024_S1x256x1024
theorem sc_w : S1024x2048.ShapeCasts S1x1024x2048 := by decide

/-- The product of the device's own rows. -/
def out0 (c : Dev nD) : Vec F S1024x2048 .f32 := k0_pay16 (xo m c) (shapeCast S1x1024x2048 (wo m c) sc_w)
/-- One received chunk's product added. -/
def plus (c : Dev nD) (d : Fin 3) (r : Fin 4) (o : Vec F S256x2048 .f32) : Vec F S256x2048 .f32 :=
  addProd o (shapeCast S1x256x1024 (sent m (prv c d) d r) sc_x) (shapeCast S1x1024x2048 (wc m c d) sc_w)
/-- Chunk `r` of the sums. -/
def out1 (c : Dev nD) (r : Fin 4) : Vec F S256x2048 .f32 := plus m c 1 r (plus m c 2 r (plus m c 0 r (part (outR r) (out0 m c))))
/-- The row of device `c`'s largest magnitude. -/
def amx (c : Dev nD) : FVec F S1x128 .f32 := k0_pay36 (k0_pay20 (out1 m c 0)) (k0_pay20 (out1 m c 1)) (k0_pay20 (out1 m c 2)) (k0_pay20 (out1 m c 3))
/-- The four rows. -/
def axAll : Vec F S4x128 .f32 := glue rowR row_cov fun p => amx m p
/-- The sums. -/
def outAll (c : Dev nD) : Vec F S1024x2048 .f32 := glue outR out_cov fun r => out1 m c r
/-- The result. -/
def fin (c : Dev nD) : Vec F S1024x2048 .f32 := k0_pay1 (k0_pay37 (axAll m)) (k0_pay38 (axAll m) (outAll m c))

omit [FloatOps F] in
theorem shapeCast_back (v : Vec F S256x1024 .f32) : shapeCast S256x1024 (shapeCast S1x256x1024 v sc_x) shapeCasts_S1x256x1024_S256x1024 = v :=
  shapeCast_shapeCast _ _ _
/-- A fetched chunk narrowed, seen without its unit axis, is the chunk sent. -/
theorem narrow_sent (c : Dev nD) (d : Fin 3) (r : Fin 4) :
    shapeCast S256x1024 (narrow (F := F) (shapeCast S1x256x1024 (ck m c d r) sc_x)) shapeCasts_S1x256x1024_S256x1024 = sent m c d r := by
  unfold narrow
  rw [shapeCast_shapeCast, shapeCast_back]
  rfl

end Cert.KernelIdeal.Run

end
-- ==== Proof.Sched.lean ====
/-
  The cross-device protocol: for every semaphore that another device may raise or that a remote copy signals, who pays
  what into it, what each payment hands over, and in what order a device pays.

  Device `c` has 31 such cells. Its barrier cell takes one unit from each other device: the device `d + 1` ahead hands over its
  landing slab `d` and row `c` of its magnitudes. Cell `recv d r` takes chunk `r` from the device `d + 1` behind, landed;
  cell `axr d` that device's row of magnitudes; cells `send d r` and `axs d` take back what the device's own copy read.
-/
module

public import proofs.«01_k».proof.Proof.Contents
public import Idealize.ShloMosaic.Lib.Pipeline.Launch

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

/-! ## The cells -/

/-- The cells of a device. -/
inductive Kd where
  | bar
  | recv (d : Fin 3) (r : Fin 4)
  | axr (d : Fin 3)
  | send (d : Fin 3) (r : Fin 4)
  | axs (d : Fin 3)
deriving DecidableEq

/-- The cells, listed by sort. -/
def kdEquiv : Unit ⊕ (Fin 3 × Fin 4) ⊕ Fin 3 ⊕ (Fin 3 × Fin 4) ⊕ Fin 3 ≃ Kd where
  toFun | .inl _ => .bar | .inr (.inl p) => .recv p.1 p.2 | .inr (.inr (.inl d)) => .axr d
        | .inr (.inr (.inr (.inl p))) => .send p.1 p.2 | .inr (.inr (.inr (.inr d))) => .axs d
  invFun | .bar => .inl () | .recv d r => .inr (.inl (d, r)) | .axr d => .inr (.inr (.inl d))
         | .send d r => .inr (.inr (.inr (.inl (d, r)))) | .axs d => .inr (.inr (.inr (.inr d)))
  left_inv := by rintro (_ | _ | _ | _ | _) <;> rfl
  right_inv := by rintro (_ | _ | _ | _ | _) <;> rfl

instance : Fintype Kd := Fintype.ofEquiv _ kdEquiv

/-- The semaphore of a cell. -/
def csem : Kd → SemLoc sig
  | .bar => .reg barS
  | .recv d r => .dma (recvS d r)
  | .axr d => .dma (axrS d)
  | .send d r => .dma (sendS d r)
  | .axs d => .dma (axsS d)

theorem csem_inj' : ∀ k k' : Kd, csem k = csem k' → k = k' := by decide +kernel
theorem csem_inj : Function.Injective csem := fun k k' h => csem_inj' k k' h

/-- The cell `k` of device `c`. -/
abbrev cell (c : Dev nD) (k : Kd) : GSem nD τ sig := ((c : Thread nD τ), csem k)

open Classical in
/-- The cell a semaphore belongs to, if it belongs to one. -/
def kindOf (sm : SemLoc sig) : Option Kd := if h : ∃ k, csem k = sm then some h.choose else none
theorem kindOf_csem (k : Kd) : kindOf (csem k) = some k := by
  unfold kindOf
  have h : ∃ k', csem k' = csem k := ⟨k, rfl⟩
  rw [dif_pos h, csem_inj h.choose_spec]

/-- The payments into a cell, named by how far ahead of the payer the cell's device is. -/
def Kd.duties : Kd → Finset (Fin 3)
  | .bar => Finset.univ
  | .recv d _ | .axr d | .send d _ | .axs d => {d}

/-- The credits of a chunk and of a row. -/
def NX : ℕ := (xvV 0 0).view.dmaCredit
def NA : ℕ := (axRow 0).view.dmaCredit
theorem NX_pos : 0 < NX := View.dmaCredit_pos _ (by decide)
theorem NA_pos : 0 < NA := View.dmaCredit_pos _ (by decide)
theorem credit_xv (d : Fin 3) (r : Fin 4) : (xvV d r).view.dmaCredit = NX := rfl
theorem credit_xb (d : Fin 3) (r : Fin 4) : (xbV d r).view.dmaCredit = NX := rfl
theorem credit_axO (c : Dev nD) : (axO c).view.dmaCredit = NA := rfl
theorem credit_axC (c : Dev nD) (d : Fin 3) : (axC c d).view.dmaCredit = NA := rfl
attribute [irreducible] NX NA

/-- What one payment is worth. -/
def Kd.amt : Kd → ℕ
  | .bar => 1
  | .recv _ _ | .send _ _ => NX
  | .axr _ | .axs _ => NA
theorem Kd.amt_pos (k : Kd) : 0 < k.amt := by cases k <;> first | exact Nat.one_pos | exact NX_pos | exact NA_pos

/-! ## The resources -/

abbrev UB : Type := URounds (GSem nD τ sig) (Fin 3)
abbrev UU : Type := UR sig nD τ × (UB × Counters)

local notation "𝕄" => MT nD τ sig Unit (Elt F) ℕ UU ℕ

/-- The protocol's part of the ghost state, -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance : (ER (F := F)).LandsIn (upEmb : UEmb _ 𝕄) := by unfold ER; infer_instance
/-- the pipeline's part, and the local copies'. -/
abbrev EP : Emb (UR sig nD τ) (MT nD τ sig Unit (Elt F) ℕ UU ℕ) := embL
abbrev EC : UEmb Counters (MT nD τ sig Unit (Elt F) ℕ UU ℕ) := countersEmb

variable (m : (ℓ : Loc nD τ sig) → Buf (Elt F) ℓ)

/-- The share of its row a device lends each of the three copies that send it. -/
def qa : Fin 3 → PosShare TreeShare
  | 0 => (fullShare : PosShare TreeShare).left
  | 1 => (fullShare : PosShare TreeShare).right.left
  | 2 => (fullShare : PosShare TreeShare).right.right

/-- What the device `e + 1` ahead of `c` hands `c` on entering: where `c`'s four chunks and its row are to land. -/
def barPay (c : Dev nD) (e : Fin 3) : sProp 𝕄 :=
  iprop((bigSep Finset.univ fun r : Fin 4 => heldAny (nxt c e : Thread nD τ) (xvV e r)) ∗ heldAny (nxt c e : Thread nD τ) (axRow c))

/-- What a payment into a cell of device `c` hands over. -/
def payK (c : Dev nD) : Kd → Fin 3 → sProp 𝕄
  | .bar, d => barPay c (rv d)
  | .recv d r, _ => held (c : Thread nD τ) (xvV d r) fullShare (sent m (prv c d) d r)
  | .axr d, _ => held (c : Thread nD τ) (axRow (prv c d)) fullShare (amx m (prv c d))
  | .send d r, _ => heldAny (c : Thread nD τ) (xbV d r)
  | .axs d, _ => held (c : Thread nD τ) (axRow c) (qa d) (amx m c)

instance barPay_storable (c : Dev nD) (e : Fin 3) : BI.Storable (upEmb : UEmb _ 𝕄) (barPay (F := F) c e) := by unfold barPay; infer_instance
instance payK_storable (c : Dev nD) (k : Kd) (d : Fin 3) : BI.Storable (upEmb : UEmb _ 𝕄) (payK m c k d) := by
  cases k <;> (unfold payK; infer_instance)

/-- What a copy brings to the device ahead is what its cell there hands over. -/
theorem pays_recv (c : Dev nD) (d : Fin 3) (r : Fin 4) :
    held (nxt c d : Thread nD τ) (xvV d r) fullShare (sent m c d r) ⊢ payK m (nxt c d) (.recv d r) d := by
  have h : payK m (nxt c d) (.recv d r) d = held (nxt c d : Thread nD τ) (xvV d r) fullShare (sent m (prv (nxt c d) d) d r) := rfl
  rw [h, prv_nxt]
theorem pays_axr (c : Dev nD) (d : Fin 3) :
    held (nxt c d : Thread nD τ) (axRow c) fullShare (amx m c) ⊢ payK m (nxt c d) (.axr d) d := by
  have h : payK m (nxt c d) (.axr d) d = held (nxt c d : Thread nD τ) (axRow (prv (nxt c d) d)) fullShare (amx m (prv (nxt c d) d)) := rfl
  rw [h, prv_nxt]
theorem pays_axs (c : Dev nD) (d : Fin 3) : held (c : Thread nD τ) (axRow c) (qa d) (amx m c) ⊢ payK m c (.axs d) d := .rfl

/-- One round per cell. -/
def Rd : Rounds.Schedule (GSem nD τ sig) (Fin 3) 𝕄 where
  duties g r := if r = 0 ∧ g.1.2 = .tc then (match kindOf g.2 with | some k => k.duties | none => ∅) else ∅
  unitless _ := False
  amount g _ _ := match kindOf g.2 with | some k => k.amt | none => 1
  payload g _ d := match kindOf g.2 with | some k => payK m g.1.1 k d | none => iprop(emp)
  amount_pos g _ _ _ := by split; exacts [Kd.amt_pos _, Nat.one_pos]

instance Rd_storable (g : GSem nD τ sig) (r : ℕ) (d : Fin 3) : BI.Storable (upEmb : UEmb _ 𝕄) ((Rd m).payload g r d) := by
  dsimp only [Rd]; split <;> infer_instance

theorem duties_cell (c : Dev nD) (k : Kd) : (Rd m).duties (cell c k) 0 = k.duties := by
  dsimp only [Rd]; rw [if_pos ⟨rfl, rfl⟩, kindOf_csem]
theorem duties_later (g : GSem nD τ sig) : ∀ r, 1 ≤ r → (Rd m).duties g r = ∅ := fun r hr => by
  dsimp only [Rd]; rw [if_neg fun h => by omega]
theorem amount_cell (c : Dev nD) (k : Kd) (d : Fin 3) : (Rd m).amount (cell c k) 0 d = k.amt := by
  dsimp only [Rd]; rw [kindOf_csem]
theorem payload_cell (c : Dev nD) (k : Kd) (d : Fin 3) : (Rd m).payload (cell c k) 0 d = payK m c k d := by
  dsimp only [Rd]; rw [kindOf_csem]
theorem expect_cell (c : Dev nD) (k : Kd) : (Rd m).expect (cell c k) 0 = k.duties.card * k.amt := by
  unfold Schedule.expect Schedule.amountOf
  rw [duties_cell, Finset.sum_congr rfl fun d _ => amount_cell m c k d, Finset.sum_const, smul_eq_mul]
theorem rest_cell (c : Dev nD) (k : Kd) :
    bigSep ((Rd m).duties (cell c k) 0 \ ∅) (fun d => (Rd m).payload (cell c k) 0 d) = bigSep k.duties fun d => payK m c k d := by
  rw [Finset.sdiff_empty, duties_cell]
  exact congrArg (bigSep k.duties) (funext fun d => payload_cell m c k d)

/-! ## What a device owes -/

/-- What is owed for a list of payments, each to the device so far ahead. -/
def owed (c : Dev nD) : List (Fin 3 × Kd) → CellTallies nD τ sig Unit
  | [] => 0
  | x :: l => owed c l + tallyAt (cell (nxt c x.1) x.2) () x.2.amt

/-- The payments in the order they are made: on entering, -/
abbrev dueMax : List (Fin 3 × Kd) := [(0, .axr 0), (1, .axr 1), (2, .axr 2)]
abbrev dueSend : List (Fin 3 × Kd) :=
  (0, .recv 0 0) :: (2, .recv 2 0) :: (1, .recv 1 0) :: (0, .recv 0 1) :: (2, .recv 2 1) :: (1, .recv 1 1) ::
  (0, .recv 0 2) :: (2, .recv 2 2) :: (1, .recv 1 2) :: (0, .recv 0 3) :: (2, .recv 2 3) :: (1, .recv 1 3) :: dueMax
abbrev dueAll : List (Fin 3 × Kd) := (0, .bar) :: (1, .bar) :: (2, .bar) :: dueSend

/-- The levels: a wait may be made owing only what lies above it. -/
def Kd.lev : Kd → ℕ
  | .bar => 1
  | .recv _ _ => 2
  | .axr _ => 3
  | .send _ _ | .axs _ => 0
def lvS (sm : SemLoc sig) : ℕ := match kindOf sm with | some k => k.lev | none => 0
def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_csem (k : Kd) : lvS (csem k) = k.lev := by unfold lvS; rw [kindOf_csem]
theorem lvS_other (sm : SemLoc sig) (h : ∀ k, csem k ≠ sm) : lvS sm = 0 := by
  unfold lvS kindOf; rw [dif_neg fun ⟨k, hk⟩ => h k hk]

theorem owed_pos {c : Dev nD} {g : GSem nD τ sig} {u : Unit} : ∀ {l : List (Fin 3 × Kd)}, 0 < owed c l g u → ∃ x ∈ l, g = cell (nxt c x.1) x.2
  | [], h => absurd h (Nat.lt_irrefl 0)
  | x :: l, h => by
    unfold owed at h
    rw [Pi.add_apply, Finsupp.add_apply, tallyAt_apply] at h
    by_cases hg : g = cell (nxt c x.1) x.2 ∧ u = ()
    · exact ⟨x, List.mem_cons_self, hg.1⟩
    · rw [if_neg hg, Nat.add_zero] at h
      obtain ⟨y, hy, e⟩ := owed_pos h
      exact ⟨y, List.mem_cons_of_mem _ hy, e⟩

/-- A wait below everything still owed may be made. -/
theorem mayWait (c : Dev nD) (sm : SemLoc sig) (l : List (Fin 3 × Kd)) (h : ∀ x ∈ l, lvS sm < x.2.lev) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨x, -, rfl⟩ := owed_pos hg; rw [L_tc]; exact Finset.mem_singleton_self _)
    (fun p hp => by rw [Finset.mem_singleton.mp hp]; exact le_refl _)
    (fun g u hg => by
      obtain ⟨x, hx, rfl⟩ := owed_pos hg
      show _ < lvS (csem x.2)
      rw [lvS_csem]; exact h x hx)

/-- What a device still owes, whatever it has waited for. -/
def owesAny (c : Dev nD) (l : List (Fin 3 × Kd)) : sProp 𝕄 := iprop(∃ W, owes (c : Thread nD τ) (owed c l) W)

/-- One member of a family, the rest dropped. -/
theorem pick {I : Type} [Fintype I] [DecidableEq I] (Φ : I → sProp 𝕄) (i : I) : bigSep Finset.univ Φ ⊢ Φ i :=
  bigSep_elim (Finset.mem_univ i)

/-! ## The records every device knows -/

/-- Every cell's invariant, at the names `K`, and that every cell is at its round. -/
def records (K : Dev nD × Kd → ℕ) : sProp 𝕄 :=
  iprop((bigSep Finset.univ fun p : Dev nD × Kd => cellInv ER (Rd m) (K p) (cell p.1 p.2)) ∗
    bigSep Finset.univ fun p : Dev nD × Kd => reached ER (cell p.1 p.2) 0)

instance records_persistent (K : Dev nD × Kd → ℕ) : BI.Persistent (records m K) := by unfold records; infer_instance

theorem records_inv (K : Dev nD × Kd → ℕ) (c : Dev nD) (k : Kd) : records m K ⊢ cellInv ER (Rd m) (K (c, k)) (cell c k) := by
  unfold records
  iintro ⟨H, -⟩
  iapply (pick (fun p : Dev nD × Kd => cellInv ER (Rd m) (K p) (cell p.1 p.2)) (c, k)) $$ H
theorem records_reached (K : Dev nD × Kd → ℕ) (c : Dev nD) (k : Kd) : records m K ⊢ reached ER (cell c k) 0 := by
  unfold records
  iintro ⟨-, H⟩
  iapply (pick (F := F) (fun p : Dev nD × Kd => reached ER (cell p.1 p.2) 0) (c, k)) $$ H

end Cert.KernelIdeal.Run

end
-- ==== Proof.Moves.lean ====
/-
  What each step of the body does to what the device holds.
-/
module

public import proofs.«01_k».proof.Proof.Sched

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

local notation "𝕄" => MT nD τ sig Unit (Elt F) ℕ UU ℕ

abbrev 𝒱₀ : Variants := Variants.none

/-- The body's remaining steps `k` end in `Q`. -/
abbrev does (c : Dev nD) (k : P (F := F)) (Q : PUnit → sProp 𝕄) : sProp 𝕄 :=
  wp frame (wpE (defs₀ (F := F)) 𝒱₀ (c : Thread nD τ) none) Set.univ k Q

variable (m : (ℓ : Loc nD τ sig) → Buf (Elt F) ℓ)
variable {K : Dev nD × Kd → ℕ} {c : Dev nD} {k : P (F := F)} {Q : PUnit → sProp (MT nD τ sig Unit (Elt F) ℕ UU ℕ)}

/-! ## The cells -/

/-- A wait on a cell for its whole round: every payment into it is handed over, and its counter is back at zero. -/
theorem wait_cell (kd : Kd) {w : TpuEff nD τ sig (Elt F) Λ₀ .tc PUnit} {n : ℕ}
    (hw : ∀ K' : PUnit → sProp 𝕄, wpE (defs₀ (F := F)) 𝒱₀ (c : Thread nD τ) none Set.univ w K' = waitSpec (c : Thread nD τ) Set.univ (csem kd) n K')
    (hn : n = kd.duties.card * kd.amt) (l : List (Fin 3 × Kd)) (hl : ∀ x ∈ l, kd.lev < x.2.lev) :
    iprop(records m K ∗ levAts L lv ∗ cred (tallyAt (cell c kd) () n) ∗ owesAny c l ∗ atPos ER (cell c kd) 0 ∅ 0)
      ⊢ iprop(((bigSep kd.duties fun d => payK m c kd d) ∗ semVal (cell c kd) 0 ∗ owesAny c l -∗ does c k Q)
        -∗ does c (.op w fun _ => k) Q) := by
  unfold owesAny
  iintro ⟨#HR, #HL, Hc, ⟨%W, HO⟩, Hat⟩ Hk
  ihave #HI := (records_inv m K c kd) $$ HR
  iapply (Rounds.wp_wait_rest_token 𝒱₀ ER (Rd m) (c : Thread nD τ) none (κ := K (c, kd)) (sm := csem kd) hw (Set.mem_univ _) ()
    (O := owed c l) (W := W) (R := 0) (m := 0) (T := ∅) (by rw [expect_cell, Nat.zero_add]; exact hn)) $$ [Hc HO Hat]
  · isplitr; · iexact HI
    isplitl [Hc]; · iexact Hc
    isplitl [HO]; · iexact HO
    isplitr; · iapply (mayWait c (csem kd) l (by rw [lvS_csem]; exact hl)); iexact HL
    iexact Hat
  iintro ⟨HO, Hat, -, Hpay⟩
  ihave Hpay := (Entails.of_eq (rest_cell m c kd)) $$ Hpay
  imod (Rounds.cell_close ER (Rd m) (Set.mem_univ (K (c, kd))) (fun h => h) (R := 0 + 1) (duties_later m (cell c kd))) $$ [Hat] with Hz
  · isplitr; · iexact HI
    iexact Hat
  iapply Hk
  isplitl [Hpay]; · iexact Hpay
  isplitl [Hz]; · iexact Hz
  iexists _; iexact HO

/-- A copy to the device `d + 1` ahead that pays a cell of this device and a cell of that one. -/
theorem send_cell (kS kR : Kd) (d : Fin 3) (n : Dev nD) (hn : n = nxt c d) {s : Shape} {e : EltTy} {sp sp' : Space}
    {src : Memref sig .tc sp s e} {dst : Memref sig .tc sp' s e} {hsc : dst.view.ref.isScScratch = false}
    {hsrc : src.view.WordExact} {hdst : dst.view.WordExact}
    {hsem : DmaTarget.Typed (nD := nD) (τ := τ) sp (csem kR) (.remote (Dev.tc n) dst (csem kS) hsc)} {q : PosShare TreeShare} {X : s.Idx → Elt F e}
    (hdS : d ∈ kS.duties) (hdR : d ∈ kR.duties) (hN : dst.view.amount (csem kR) = kR.amt) (hSR : kS.amt = kR.amt) (l : List (Fin 3 × Kd))
    (hpS : held (c : Thread nD τ) src q X ⊢ payK m c kS d) (hpR : held (nxt c d : Thread nD τ) dst fullShare X ⊢ payK m (nxt c d) kR d) :
    iprop(records m K ∗ held (c : Thread nD τ) src q X ∗ heldAny (nxt c d : Thread nD τ) dst ∗ owesAny c ((d, kR) :: l)
        ∗ dutyTok ER (cell c kS) 0 d ∗ dutyTok ER (cell (nxt c d) kR) 0 d)
      ⊢ iprop((cred (tallyAt (cell c kS) () kR.amt) ∗ owesAny c l -∗ does c k Q)
        -∗ does c (.op (.enqueueDma src (.remote (Dev.tc n) dst (csem kS) hsc) (csem kR) hsrc hdst hsem) fun _ => k) Q) := by
  subst hn
  unfold owesAny
  iintro ⟨#HR, Hs, Hd, ⟨%W, HO⟩, Ht1, Ht2⟩ Hk
  iapply (Held.wp_send 𝒱₀ (c : Thread nD τ) none (E := ER) (Rd m) (c' := (nxt c d : Thread nD τ)) (src := src) (dst := dst) (sS := csem kS) (sem := csem kR)
    (κ₁ := K (c, kS)) (κ₂ := K (nxt c d, kR)) (d := d) (q := q) (X := X)
    (by rw [duties_cell]; exact hdS) (by rw [duties_cell]; exact hdR) () kR.amt hN
    ((amount_cell m c kS d).trans hSR) (amount_cell m (nxt c d) kR d) (owed c l) (W := W) (by rw [payload_cell]; exact hpS) (by rw [payload_cell]; exact hpR) (by routes))
    $$ [Hs Hd HO Ht1 Ht2]
  · isplitr; · iapply (records_inv m K c kS); iexact HR
    isplitr; · iapply (records_inv m K (nxt c d) kR); iexact HR
    isplitl [Hs]; · iexact Hs
    isplitl [Hd]; · iexact Hd
    isplitl [HO]; · iexact HO
    isplitl [Ht1]; · iexact Ht1
    isplitr; · iapply (records_reached m K c kS); iexact HR
    isplitl [Ht2]; · iexact Ht2
    iapply (records_reached m K (nxt c d) kR); iexact HR
  iintro ⟨Hc, HO⟩
  iapply Hk
  isplitl [Hc]; · iexact Hc
  iexists W; iexact HO

/-! ## Entering -/

/-- Telling the device `d + 1` ahead hands it this device's landing slab and row for it. -/
theorem do_sig (d : Fin 3) (n : Dev nD) (hn : n = nxt c d) (l : List (Fin 3 × Kd)) :
    iprop(records m K ∗ owesAny c ((d, .bar) :: l) ∗ dutyTok ER (cell (nxt c d) .bar) 0 d
        ∗ (bigSep Finset.univ fun r : Fin 4 => heldAny (c : Thread nD τ) (xvV (rv d) r)) ∗ heldAny (c : Thread nD τ) (axRow (nxt c d)))
      ⊢ iprop((owesAny c l -∗ does c k Q) -∗ does c (sig1 n k) Q) := by
  subst hn
  unfold owesAny sig1
  iintro ⟨#HR, ⟨%W, HO⟩, Ht, Hx, Ha⟩ Hk
  iapply (Rounds.wp_signal 𝒱₀ ER (Rd m) (c : Thread nD τ) none (dst := (nxt c d : Thread nD τ)) (κ := K (nxt c d, .bar)) (r := 0) (d := d)
      ((congrArg (d ∈ ·) (duties_cell m (nxt c d) .bar)).mpr (Finset.mem_univ d)) (amount_cell m (nxt c d) .bar d) () (owed c l) rfl (W := W)) $$ [HO Ht Hx Ha]
  · isplitr; · iapply (records_inv m K (nxt c d) .bar); iexact HR
    isplitl [HO]; · iexact HO
    isplitl [Ht]; · iexact Ht
    isplitl [Hx Ha]
    · rw [show (Rd m).payload ((nxt c d : Thread nD τ), SemLoc.reg barS) 0 d = barPay (nxt c d) (rv d) from payload_cell m (nxt c d) .bar d]
      unfold barPay
      rw [nxt_rv]
      isplitl [Hx]; · iexact Hx
      iexact Ha
    iapply (records_reached m K (nxt c d) .bar); iexact HR
  iintro HO
  iapply Hk
  iexists W; iexact HO

/-- The barrier: each other device has handed over where this one's chunks and row are to land. -/
theorem do_waitBar (l : List (Fin 3 × Kd)) (hl : ∀ x ∈ l, 1 < x.2.lev) :
    iprop(records m K ∗ levAts L lv ∗ cred (tallyAt (cell c .bar) () 3) ∗ owesAny c l ∗ atPos ER (cell c .bar) 0 ∅ 0)
      ⊢ iprop(((bigSep Finset.univ fun e : Fin 3 => barPay c e) ∗ semVal (cell c .bar) 0 ∗ owesAny c l -∗ does c k Q) -∗ does c (waitBar k) Q) := by
  have h := wait_cell (K := K) (k := k) (Q := Q) m (c := c) .bar (w := .semWait barS 3) (n := 3) (wpE_semWait_eq 𝒱₀ (c : Thread nD τ) none Set.univ) (by decide) l hl
  rw [show bigSep Kd.bar.duties (fun d => payK m c .bar d) = bigSep Finset.univ (fun e : Fin 3 => barPay (F := F) c e) from
    (bigSep_univ_equiv (Fin.revPerm (n := 3)) fun e => barPay (F := F) c e).symm] at h
  exact h

/-! ## The local fetches -/

/-- The shares of the device's `x` and `w` that its fetches read at. -/
def qx : Fin 2 → PosShare TreeShare
  | 0 => (fullShare : PosShare TreeShare).left.left
  | 1 => (fullShare : PosShare TreeShare).left.right.left
def qo : PosShare TreeShare := (fullShare : PosShare TreeShare).left.right.right
def qw : Fin 3 → PosShare TreeShare
  | 0 => (fullShare : PosShare TreeShare).left.left
  | 1 => (fullShare : PosShare TreeShare).left.right.left
  | 2 => (fullShare : PosShare TreeShare).left.right.right

/-- An array `src` read at share `q` by the fetches through the semaphore `sm`, none under way; -/
def idle (c : Dev nD) {sp : Space} {s : Shape} {e : EltTy} (src : Memref sig .tc sp s e) (q : PosShare TreeShare) (X : s.Idx → Elt F e) (sm : DmaSem sig) : sProp 𝕄 :=
  iprop(held (c : Thread nD τ) src q X ∗ semVal ((c : Thread nD τ), SemLoc.dma sm) 0)

/-- the fetch of its part `R` into `dst` under way. -/
def busy (c : Dev nD) {sp sp' : Space} {s : Shape} {e : EltTy} (src : Memref sig .tc sp s e) (R : Rect s) (hR : ∀ a, R.stride a = 1)
    (dst : Memref sig .tc sp' R.shape e) (q : PosShare TreeShare) (X : s.Idx → Elt F e) (sm : DmaSem sig) : sProp 𝕄 :=
  iprop(Transfers.Flight EC (c : Thread nD τ) (.dma sm) () dst.view.dmaCredit
      iprop(held (c : Thread nD τ) dst fullShare (part R X) ∗ held (c : Thread nD τ) (src.slice R hR) q (part R X))
    ∗ (held (c : Thread nD τ) (src.slice R hR) q (part R X) -∗ held (c : Thread nD τ) src q X))

theorem start_fetch {sp sp' : Space} {s : Shape} {e : EltTy} {src : Memref sig .tc sp s e} {R : Rect s} {hR : ∀ a, R.stride a = 1} {dst : Memref sig .tc sp' R.shape e}
    {q : PosShare TreeShare} {X : s.Idx → Elt F e} {sm : DmaSem sig} {hsrc : (src.slice R hR).view.WordExact} {hdst : dst.view.WordExact}
    {hsem : DmaTarget.Typed (nD := nD) (τ := τ) (p := .tc) sp (.dma sm) (.here dst)} (h0 : 0 < dst.view.dmaCredit) :
    iprop(idle c src q X sm ∗ heldAny (c : Thread nD τ) dst)
      ⊢ iprop((busy c src R hR dst q X sm -∗ does c k Q) -∗ does c (.op (.enqueueDma (src.slice R hR) (.here dst) (.dma sm) hsrc hdst hsem) fun _ => k) Q) := by
  unfold idle busy
  iintro ⟨⟨Hs, Hv⟩, Hd⟩ Hk
  ihave Hs := (held_lend (c : Thread nD τ) src R hR q X) $$ Hs
  icases Hs with ⟨Hs, Hback⟩
  iapply (Held.wp_copy 𝒱₀ (c : Thread nD τ) none EC (src := src.slice R hR) (dst := dst) (sm := .dma sm) (q := q) (X := part R X) () dst.view.dmaCredit rfl h0) $$ [Hs Hd Hv]
  · isplitl [Hs]; · iexact Hs
    isplitl [Hd]; · iexact Hd
    iexact Hv
  iintro Hf
  iapply Hk
  isplitl [Hf]; · iexact Hf
  iexact Hback

theorem end_fetch {sp sp' : Space} {s : Shape} {e : EltTy} {src : Memref sig .tc sp s e} {R : Rect s} {hR : ∀ a, R.stride a = 1} {dst : Memref sig .tc sp' R.shape e}
    {q : PosShare TreeShare} {X : s.Idx → Elt F e} {sm : DmaSem sig} {hsrc : (src.slice R hR).view.WordExact} {hdst : dst.view.WordExact}
    (l : List (Fin 3 × Kd)) (hl : ∀ x ∈ l, lvS (.dma sm) < x.2.lev) :
    iprop(busy c src R hR dst q X sm ∗ levAts L lv ∗ owesAny c l)
      ⊢ iprop((held (c : Thread nD τ) dst fullShare (part R X) ∗ idle c src q X sm ∗ owesAny c l -∗ does c k Q)
        -∗ does c (.op (.waitDma2 sm (src.slice R hR) dst hsrc hdst) fun _ => k) Q) := by
  unfold idle busy owesAny
  iintro ⟨⟨Hf, Hback⟩, #HL, ⟨%W, HO⟩⟩ Hk
  iapply (Transfers.wp_waitLocalO EC 𝒱₀ (c : Thread nD τ) none () rfl (W := W)) $$ [Hf HO]
  · isplitl [Hf]; · iexact Hf
    isplitl [HO]; · iexact HO
    iapply (mayWait c (.dma sm) l hl); iexact HL
  iintro ⟨⟨Hd, Hs⟩, Hv, HO⟩
  iapply Hk
  isplitl [Hd]; · iexact Hd
  isplitl [Hs Hback Hv]
  · isplitl [Hs Hback]
    · iapply Hback; iexact Hs
    iexact Hv
  iexists _; iexact HO

theorem low_sd : ∀ (s : Fin 2) (k : Kd), csem k ≠ .dma (sdS s) := by decide +kernel
theorem low_wd : ∀ (s : Fin 3) (k : Kd), csem k ≠ .dma (wdS s) := by decide +kernel
theorem low_xd : ∀ k : Kd, csem k ≠ .dma xdS := by decide +kernel

/-- Slot `s` of the chunks' fetches free, -/
def sdIdle (c : Dev nD) (s : Fin 2) : sProp 𝕄 := iprop(idle c xM (qx s) (xAt m c) (sdS s) ∗ heldAny (c : Thread nD τ) (xsV s))
abbrev ckR (c : Dev nD) (d : Fin 3) (r : Fin 4) : Rect S4096x1024 :=
  Rect.unit (s := S4096x1024) (k0_off1 c (BitVec.ofNat 32 (1 + d.val)) (BitVec.ofNat 32 (256 * r.val))) S256x1024.size (k0_off1_inb c d r)
/-- and being filled with chunk `r` for slab `d`. -/
def sdBusy (c : Dev nD) (d : Fin 3) (r : Fin 4) (s : Fin 2) : sProp 𝕄 :=
  busy c xM (ckR c d r) (fun _ => rfl) (xsV s) (qx s) (xAt m c) (sdS s)

theorem do_fetch (d : Fin 3) (r : Fin 4) (s : Fin 2) :
    sdIdle m c s ⊢ iprop((sdBusy m c d r s -∗ does c k Q) -∗ does c (fetch c d r s k) Q) :=
  start_fetch (c := c) (k := k) (Q := Q) (src := xM) (R := ckR c d r) (hR := fun _ => rfl) (dst := xsV s) (q := qx s) (X := xAt m c) (sm := sdS s)
    (View.dmaCredit_pos (xsV s).view (by decide))

/-- The chunk has come: it is narrowed into its slab, and the slot is free. -/
theorem do_pack (d : Fin 3) (r : Fin 4) (s : Fin 2) (l : List (Fin 3 × Kd)) (hl : ∀ x ∈ l, 0 < x.2.lev) :
    iprop(levAts L lv ∗ sdBusy m c d r s ∗ heldAny (c : Thread nD τ) (xbV d r) ∗ owesAny c l)
      ⊢ iprop((sdIdle m c s ∗ held (c : Thread nD τ) (xbV d r) fullShare (sent m c d r) ∗ owesAny c l -∗ does c k Q)
        -∗ does c (pack c d r s k) Q) := by
  unfold pack sdBusy
  iintro ⟨#HL, Hf, Hb, HO⟩ Hk
  ihave Hb := (heldAny_elim (c : Thread nD τ) (xbV d r)) $$ Hb
  icases Hb with ⟨%Y, Hb⟩
  iapply (end_fetch l (by rw [lvS_other _ (low_sd s)]; exact hl)) $$ [Hf HO]
  · isplitl [Hf]; · iexact Hf
    isplitr; · iexact HL
    iexact HO
  iintro ⟨Hx, Hi, HO⟩
  ihave Hx := (show held (c : Thread nD τ) (xsV s) fullShare (part (ckR c d r) (xAt m c))
      ⊢ held (c : Thread nD τ) (xsM.slice (xsR s) fun _ => rfl) fullShare (shapeCast S1x256x1024 (ck m c d r) sc_x) from
    held_unsqueeze (c : Thread nD τ) (xsM.slice (xsR s) fun _ => rfl) squeezes_S1x256x1024_S256x1024 sc_x fullShare (ck m c d r)) $$ Hx
  iapply (Held.wp_load 𝒱₀ (c : Thread nD τ) none (m := xsM)) $$ Hx
  iintro Hx
  ihave Hb := (held_unsqueeze (c : Thread nD τ) (xbM.slice (slabR d r) fun _ => rfl) squeezes_S1x256x1024_S256x1024 sc_x fullShare Y) $$ Hb
  iapply (Held.wp_load 𝒱₀ (c : Thread nD τ) none (m := xbM)) $$ Hb
  iintro Hb
  iapply (Held.wp_store 𝒱₀ (c : Thread nD τ) none (m := xbM)) $$ Hb
  iintro Hb
  ihave Hb := (held_squeeze (c : Thread nD τ) (xbM.slice (slabR d r) fun _ => rfl) squeezes_S1x256x1024_S256x1024 shapeCasts_S1x256x1024_S256x1024 fullShare _) $$ Hb
  ihave Hx := (held_squeeze (c : Thread nD τ) (xsM.slice (xsR s) fun _ => rfl) squeezes_S1x256x1024_S256x1024 shapeCasts_S1x256x1024_S256x1024 fullShare _) $$ Hx
  iapply Hk
  unfold sdIdle
  isplitl [Hi Hx]
  · isplitl [Hi]; · iexact Hi
    iapply (heldAny_intro (c : Thread nD τ) (xsV s) _); iexact Hx
  isplitl [Hb]
  · rw [← narrow_sent]; iexact Hb
  iexact HO

/-- A chunk sent: its landing slab goes to the receiver, and the sender may wait for its own. -/
theorem do_send (d : Fin 3) (r : Fin 4) (n : Dev nD) (hn : n = nxt c d) (l : List (Fin 3 × Kd)) :
    iprop(records m K ∗ held (c : Thread nD τ) (xbV d r) fullShare (sent m c d r) ∗ heldAny (nxt c d : Thread nD τ) (xvV d r) ∗ owesAny c ((d, .recv d r) :: l)
        ∗ dutyTok ER (cell c (.send d r)) 0 d ∗ dutyTok ER (cell (nxt c d) (.recv d r)) 0 d)
      ⊢ iprop((cred (tallyAt (cell c (.send d r)) () NX) ∗ owesAny c l -∗ does c k Q) -∗ does c (send n d r k) Q) :=
  send_cell m (.send d r) (.recv d r) d n hn (Finset.mem_singleton_self _) (Finset.mem_singleton_self _) (credit_xv d r) rfl l
    (heldAny_intro (c : Thread nD τ) (xbV d r) _) (pays_recv m c d r)

/-- The send is over: the slab's chunk is free. -/
theorem do_waitSend (d : Fin 3) (r : Fin 4) (l : List (Fin 3 × Kd)) (hl : ∀ x ∈ l, 0 < x.2.lev) :
    iprop(records m K ∗ levAts L lv ∗ cred (tallyAt (cell c (.send d r)) () NX) ∗ owesAny c l ∗ atPos ER (cell c (.send d r)) 0 ∅ 0)
      ⊢ iprop((heldAny (c : Thread nD τ) (xbV d r) ∗ semVal (cell c (.send d r)) 0 ∗ owesAny c l -∗ does c k Q) -∗ does c (waitSend d r k) Q) := by
  have h := wait_cell (K := K) (k := k) (Q := Q) m (c := c) (.send d r) (w := .waitDma2 (sendS d r) (xvV d r) (xbV d r) (xv_exact d r) (xb_exact d r))
    (wpE_waitDma2_eq 𝒱₀ (c : Thread nD τ) none Set.univ) ((credit_xb d r).trans (Nat.one_mul NX).symm) l hl
  rw [credit_xb] at h
  rw [show bigSep (Kd.send d r).duties (fun d' => payK m c (.send d r) d') = heldAny (c : Thread nD τ) (xbV d r) from bigSep_singleton] at h
  exact h

/-! ## The sums -/

/-- The slot of the device's own rows being filled. -/
abbrev xoR (c : Dev nD) : Rect S4096x1024 := Rect.unit (s := S4096x1024) (k0_off2 c) S1024x1024.size (k0_off2_inb c)
def xdBusy (c : Dev nD) : sProp 𝕄 :=
  busy c xM (xoR c) (fun _ => rfl) xmM qo (xAt m c) xdS
def xdIdle (c : Dev nD) : sProp 𝕄 := iprop(idle c xM qo (xAt m c) xdS ∗ heldAny (c : Thread nD τ) xmM)
/-- A slot of `w` free, being filled with the rows `R`, and filled. -/
def wdIdle (c : Dev nD) (s : Fin 3) : sProp 𝕄 := iprop(idle c wM (qw s) (wAt m c) (wdS s) ∗ heldAny (c : Thread nD τ) (wvV s))
abbrev woR (c : Dev nD) : Rect S4096x2048 := Rect.unit (s := S4096x2048) (k0_off3 c) S1024x2048.size (k0_off3_inb c)
abbrev wcR (c : Dev nD) (d : Fin 3) : Rect S4096x2048 := Rect.unit (s := S4096x2048) (k0_off4 c (BitVec.ofNat 32 (1 + d.val))) S1024x2048.size (k0_off4_inb c d)
def woBusy (c : Dev nD) : sProp 𝕄 := busy c wM (woR c) (fun _ => rfl) (wvV 0) (qw 0) (wAt m c) (wdS 0)
def wcBusy (c : Dev nD) (d s : Fin 3) : sProp 𝕄 := busy c wM (wcR c d) (fun _ => rfl) (wvV s) (qw s) (wAt m c) (wdS s)
def wcHere (c : Dev nD) (d s : Fin 3) : sProp 𝕄 :=
  iprop(idle c wM (qw s) (wAt m c) (wdS s) ∗ held (c : Thread nD τ) (wvM.slice (wvR s) fun _ => rfl) fullShare (shapeCast S1x1024x2048 (wc m c d) sc_w))

theorem do_fetchX : xdIdle m c ⊢ iprop((xdBusy m c -∗ does c k Q) -∗ does c (fetchX c k) Q) :=
  start_fetch (c := c) (k := k) (Q := Q) (src := xM) (R := xoR c) (hR := fun _ => rfl) (dst := xmM) (q := qo) (X := xAt m c) (sm := xdS)
    (View.dmaCredit_pos xmM.view (by decide))
theorem do_fetchWO : wdIdle m c 0 ⊢ iprop((woBusy m c -∗ does c k Q) -∗ does c (fetchW (wO c) (View.wordExact_bits rfl) 0 k) Q) :=
  start_fetch (c := c) (k := k) (Q := Q) (src := wM) (R := woR c) (hR := fun _ => rfl) (dst := wvV 0) (q := qw 0) (X := wAt m c) (sm := wdS 0)
    (View.dmaCredit_pos (wvV 0).view (by decide))
theorem do_fetchWC (d s : Fin 3) : wdIdle m c s ⊢ iprop((wcBusy m c d s -∗ does c k Q) -∗ does c (fetchW (wC c d) (View.wordExact_bits rfl) s k) Q) :=
  start_fetch (c := c) (k := k) (Q := Q) (src := wM) (R := wcR c d) (hR := fun _ => rfl) (dst := wvV s) (q := qw s) (X := wAt m c) (sm := wdS s)
    (View.dmaCredit_pos (wvV s).view (by decide))

theorem do_waitW (d s : Fin 3) (l : List (Fin 3 × Kd)) (hl : ∀ x ∈ l, 0 < x.2.lev) :
    iprop(levAts L lv ∗ wcBusy m c d s ∗ owesAny c l)
      ⊢ iprop((wcHere m c d s ∗ owesAny c l -∗ does c k Q) -∗ does c (waitW (wC c d) (View.wordExact_bits rfl) s k) Q) := by
  unfold waitW wcBusy
  iintro ⟨#HL, Hf, HO⟩ Hk
  iapply (end_fetch l (by rw [lvS_other _ (low_wd s)]; exact hl)) $$ [Hf HO]
  · isplitl [Hf]; · iexact Hf
    isplitr; · iexact HL
    iexact HO
  iintro ⟨Hx, Hi, HO⟩
  iapply Hk
  unfold wcHere
  isplitl [Hx Hi]
  · isplitl [Hi]; · iexact Hi
    iapply (held_unsqueeze (c : Thread nD τ) (wvM.slice (wvR s) fun _ => rfl) squeezes_S1x1024x2048_S1024x2048 sc_w fullShare (wc m c d)); iexact Hx
  iexact HO

/-- A filled slot of `w` is free again once its values are not needed. -/
theorem wcHere_idle (d s : Fin 3) : wcHere m c d s ⊢ wdIdle m c s := by
  unfold wcHere wdIdle
  iintro ⟨Hi, Hw⟩
  isplitl [Hi]; · iexact Hi
  iapply (heldAny_intro (c : Thread nD τ) (wvV s) _)
  iapply (held_squeeze (c : Thread nD τ) (wvM.slice (wvR s) fun _ => rfl) squeezes_S1x1024x2048_S1024x2048 shapeCasts_S1x1024x2048_S1024x2048 fullShare _)
  iexact Hw

theorem do_ownProd (l : List (Fin 3 × Kd)) (hl : ∀ x ∈ l, 0 < x.2.lev) :
    iprop(levAts L lv ∗ xdBusy m c ∗ woBusy m c ∗ heldAny (c : Thread nD τ) outM ∗ owesAny c l)
      ⊢ iprop((xdIdle m c ∗ wdIdle m c 0 ∗ held (c : Thread nD τ) outM fullShare (out0 m c) ∗ owesAny c l -∗ does c k Q) -∗ does c (ownProd c k) Q) := by
  unfold ownProd xdBusy woBusy
  iintro ⟨#HL, Hf, Hg, Hout, HO⟩ Hk
  ihave Hout := (heldAny_elim (c : Thread nD τ) outM) $$ Hout
  icases Hout with ⟨%Y, Hout⟩
  iapply (end_fetch l (by rw [lvS_other _ low_xd]; exact hl)) $$ [Hf HO]
  · isplitl [Hf]; · iexact Hf
    isplitr; · iexact HL
    iexact HO
  iintro ⟨Hx, Hi, HO⟩
  iapply (end_fetch l (by rw [lvS_other _ (low_wd 0)]; exact hl)) $$ [Hg HO]
  · isplitl [Hg]; · iexact Hg
    isplitr; · iexact HL
    iexact HO
  iintro ⟨Hw, Hj, HO⟩
  iapply (Held.wp_load_full 𝒱₀ (c : Thread nD τ) none (m := xmM)) $$ Hx
  iintro Hx
  ihave Hw := (show held (c : Thread nD τ) (wvV 0) fullShare (part (woR c) (wAt m c))
      ⊢ held (c : Thread nD τ) (wvM.slice (wvR 0) fun _ => rfl) fullShare (shapeCast S1x1024x2048 (wo m c) sc_w) from
    held_unsqueeze (c : Thread nD τ) (wvM.slice (wvR 0) fun _ => rfl) squeezes_S1x1024x2048_S1024x2048 sc_w fullShare (wo m c)) $$ Hw
  iapply (Held.wp_load 𝒱₀ (c : Thread nD τ) none (m := wvM)) $$ Hw
  iintro Hw
  iapply (Held.wp_load_full 𝒱₀ (c : Thread nD τ) none (m := outM)) $$ Hout
  iintro Hout
  iapply (Held.wp_store_full 𝒱₀ (c : Thread nD τ) none (m := outM)) $$ Hout
  iintro Hout
  iapply Hk
  unfold xdIdle wdIdle
  isplitl [Hi Hx]
  · isplitl [Hi]; · iexact Hi
    iapply (heldAny_intro (c : Thread nD τ) xmM _); iexact Hx
  isplitl [Hj Hw]
  · isplitl [Hj]; · iexact Hj
    iapply (heldAny_intro (c : Thread nD τ) (wvV 0) _)
    iapply (held_squeeze (c : Thread nD τ) (wvM.slice (wvR 0) fun _ => rfl) squeezes_S1x1024x2048_S1024x2048 shapeCasts_S1x1024x2048_S1024x2048 fullShare _)
    iexact Hw
  isplitl [Hout]; · iexact Hout
  iexact HO

/-- A received chunk's product added to the chunk of the result. -/
theorem do_accum (d : Fin 3) (r : Fin 4) (s : Fin 3) (o : Vec F S256x2048 .f32) (l : List (Fin 3 × Kd)) (hl : ∀ x ∈ l, 2 < x.2.lev) :
    iprop(records m K ∗ levAts L lv ∗ cred (tallyAt (cell c (.recv d r)) () NX) ∗ owesAny c l ∗ atPos ER (cell c (.recv d r)) 0 ∅ 0
        ∗ held (c : Thread nD τ) (outM.slice (outR r) fun _ => rfl) fullShare o ∗ wcHere m c d s)
      ⊢ iprop((held (c : Thread nD τ) (outM.slice (outR r) fun _ => rfl) fullShare (plus m c d r o) ∗ wcHere m c d s ∗ heldAny (c : Thread nD τ) (xvV d r)
          ∗ semVal (cell c (.recv d r)) 0 ∗ owesAny c l -∗ does c k Q) -∗ does c (accum d r s k) Q) := by
  unfold accum wcHere
  iintro ⟨#HR, #HL, Hc, HO, Hat, Ho, ⟨Hi, Hw⟩⟩ Hk
  rw [← credit_xv d r]
  iapply (wait_cell (K := K) m (.recv d r) (w := .waitDma2 (recvS d r) (xvV d r) (xvV d r) (xv_exact d r) (xv_exact d r))
    (wpE_waitDma2_eq 𝒱₀ (c : Thread nD τ) none Set.univ) ((credit_xv d r).trans (Nat.one_mul NX).symm) l hl) $$ [Hc HO Hat]
  · isplitr; · iexact HR
    isplitr; · iexact HL
    isplitl [Hc]; · iexact Hc
    isplitl [HO]; · iexact HO
    iexact Hat
  iintro ⟨Hx, Hz, HO⟩
  ihave Hx := (show bigSep (Kd.recv d r).duties (fun d' => payK m c (.recv d r) d') ⊢ held (c : Thread nD τ) (xvV d r) fullShare (sent m (prv c d) d r) from
    Entails.of_eq bigSep_singleton) $$ Hx
  iapply (Held.wp_load 𝒱₀ (c : Thread nD τ) none (m := outM)) $$ Ho
  iintro Ho
  ihave Hx := (held_unsqueeze (c : Thread nD τ) (xvM.slice (slabR d r) fun _ => rfl) squeezes_S1x256x1024_S256x1024 sc_x fullShare _) $$ Hx
  iapply (Held.wp_load 𝒱₀ (c : Thread nD τ) none (m := xvM)) $$ Hx
  iintro Hx
  iapply (Held.wp_load 𝒱₀ (c : Thread nD τ) none (m := wvM)) $$ Hw
  iintro Hw
  iapply (Held.wp_load 𝒱₀ (c : Thread nD τ) none (m := outM)) $$ Ho
  iintro Ho
  iapply (Held.wp_store 𝒱₀ (c : Thread nD τ) none (m := outM)) $$ Ho
  iintro Ho
  iapply Hk
  isplitl [Ho]; · iexact Ho
  isplitl [Hi Hw]
  · isplitl [Hi]; · iexact Hi
    iexact Hw
  isplitl [Hx]
  · iapply (heldAny_intro (c : Thread nD τ) (xvV d r) _)
    iapply (held_squeeze (c : Thread nD τ) (xvM.slice (slabR d r) fun _ => rfl) squeezes_S1x256x1024_S256x1024 shapeCasts_S1x256x1024_S256x1024 fullShare _)
    iexact Hx
  isplitl [Hz]; · iexact Hz
  iexact HO

theorem do_readOut (r : Fin 4) (o : Vec F S256x2048 .f32) {k : Vec F S256x2048 .f32 → P (F := F)} :
    held (c : Thread nD τ) (outM.slice (outR r) fun _ => rfl) fullShare o
      ⊢ iprop((held (c : Thread nD τ) (outM.slice (outR r) fun _ => rfl) fullShare o -∗ does c (k o) Q) -∗ does c (readOut r k) Q) :=
  Held.wp_load 𝒱₀ (c : Thread nD τ) none (m := outM)

/-! ## The magnitudes -/

theorem do_putMax (v : FVec F S1x128 .f32) :
    heldAny (c : Thread nD τ) (axRow c) ⊢ iprop((held (c : Thread nD τ) (axRow c) fullShare v -∗ does c k Q) -∗ does c (putMax c v k) Q) := by
  have e : axRow c = axM.slice (Rect.unit (s := S4x128) (k0_off5 c) S1x128.size (k0_off5_inb c)) fun _ => rfl := (slice_off (k0_off5_eq c) _ _).symm
  rw [e]
  unfold putMax
  iintro H Hk
  ihave H := (heldAny_elim (c : Thread nD τ) (axM.slice (Rect.unit (s := S4x128) (k0_off5 c) S1x128.size (k0_off5_inb c)) fun _ => rfl)) $$ H
  icases H with ⟨%Y, H⟩
  iapply (Held.wp_load 𝒱₀ (c : Thread nD τ) none (m := axM)) $$ H
  iintro H
  iapply (Held.wp_store 𝒱₀ (c : Thread nD τ) none (m := axM)) $$ H
  iintro H
  iapply Hk
  iexact H

theorem do_sendMax (d : Fin 3) (n : Dev nD) (hn : n = nxt c d) (l : List (Fin 3 × Kd)) :
    iprop(records m K ∗ held (c : Thread nD τ) (axRow c) (qa d) (amx m c) ∗ heldAny (nxt c d : Thread nD τ) (axRow c) ∗ owesAny c ((d, .axr d) :: l)
        ∗ dutyTok ER (cell c (.axs d)) 0 d ∗ dutyTok ER (cell (nxt c d) (.axr d)) 0 d)
      ⊢ iprop((cred (tallyAt (cell c (.axs d)) () NA) ∗ owesAny c l -∗ does c k Q) -∗ does c (sendMax c n d k) Q) := by
  have h1 := pays_axs m c d
  have h2 := pays_axr m c d
  rw [← axO_eq c] at h1 h2 ⊢
  exact send_cell m (.axs d) (.axr d) d n hn (Finset.mem_singleton_self _) (Finset.mem_singleton_self _) (credit_axO c) rfl l h1 h2

theorem do_waitMax (d : Fin 3) :
    iprop(records m K ∗ levAts L lv ∗ cred (tallyAt (cell c (.axr d)) () NA) ∗ owesAny c [] ∗ atPos ER (cell c (.axr d)) 0 ∅ 0)
      ⊢ iprop((held (c : Thread nD τ) (axRow (prv c d)) fullShare (amx m (prv c d)) ∗ semVal (cell c (.axr d)) 0 ∗ owesAny c [] -∗ does c k Q)
        -∗ does c (waitMax c d k) Q) := by
  have h := wait_cell (K := K) (k := k) (Q := Q) m (c := c) (.axr d) (w := .waitDma2 (axrS d) (axC c d) (axC c d) (View.wordExact_bits rfl) (View.wordExact_bits rfl))
    (wpE_waitDma2_eq 𝒱₀ (c : Thread nD τ) none Set.univ) ((credit_axC c d).trans (Nat.one_mul NA).symm) [] (fun _ h => absurd h List.not_mem_nil)
  rw [credit_axC] at h
  rw [show bigSep (Kd.axr d).duties (fun d' => payK m c (.axr d) d') = held (c : Thread nD τ) (axRow (prv c d)) fullShare (amx m (prv c d)) from bigSep_singleton] at h
  exact h

theorem do_waitMaxSend (d : Fin 3) :
    iprop(records m K ∗ levAts L lv ∗ cred (tallyAt (cell c (.axs d)) () NA) ∗ owesAny c [] ∗ atPos ER (cell c (.axs d)) 0 ∅ 0)
      ⊢ iprop((held (c : Thread nD τ) (axRow c) (qa d) (amx m c) ∗ semVal (cell c (.axs d)) 0 ∗ owesAny c [] -∗ does c k Q)
        -∗ does c (waitMaxSend c d k) Q) := by
  have h := wait_cell (K := K) (k := k) (Q := Q) m (c := c) (.axs d) (w := .waitDma2 (axsS d) (axO c) (axO c) (View.wordExact_bits rfl) (View.wordExact_bits rfl))
    (wpE_waitDma2_eq 𝒱₀ (c : Thread nD τ) none Set.univ) ((credit_axO c).trans (Nat.one_mul NA).symm) [] (fun _ h => absurd h List.not_mem_nil)
  rw [credit_axO] at h
  rw [show bigSep (Kd.axs d).duties (fun d' => payK m c (.axs d) d') = held (c : Thread nD τ) (axRow c) (qa d) (amx m c) from bigSep_singleton] at h
  exact h

/-- The quantised result written. -/
theorem do_finish :
    iprop(held (c : Thread nD τ) axM fullShare (axAll m) ∗ held (c : Thread nD τ) outM fullShare (outAll m c))
      ⊢ iprop((held (c : Thread nD τ) axM fullShare (axAll m) ∗ held (c : Thread nD τ) outM fullShare (fin m c) -∗ Q ⟨⟩) -∗ does c finish Q) := by
  unfold finish
  iintro ⟨Ha, Ho⟩ Hk
  iapply (Held.wp_load_full 𝒱₀ (c : Thread nD τ) none (m := axM)) $$ Ha
  iintro Ha
  iapply (Held.wp_load_full 𝒱₀ (c : Thread nD τ) none (m := outM)) $$ Ho
  iintro Ho
  iapply (Held.wp_load_full 𝒱₀ (c : Thread nD τ) none (m := outM)) $$ Ho
  iintro Ho
  iapply (Held.wp_store_full 𝒱₀ (c : Thread nD τ) none (m := outM)) $$ Ho
  iintro Ho
  rw [wp_ret]
  imodintro
  iapply Hk
  isplitl [Ha]; · iexact Ha
  iexact Ho

end Cert.KernelIdeal.Run

end
-- ==== Proof.Phases.lean ====
/-
  The body's phases: the sends, the sums and the exchange of magnitudes, each from the steps it is made of.
-/
module

public import proofs.«01_k».proof.Proof.Moves

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

local notation "𝕄" => MT nD τ sig Unit (Elt F) ℕ UU ℕ

variable (m : (ℓ : Loc nD τ sig) → Buf (Elt F) ℓ)
variable {K : Dev nD × Kd → ℕ} {c : Dev nD} {k : P (F := F)} {Q : PUnit → sProp (MT nD τ sig Unit (Elt F) ℕ UU ℕ)}

/-! ## Families written out, in the order the body goes through them -/

omit [FloatOps F] in
theorem two (Φ : Fin 2 → sProp 𝕄) : bigSep Finset.univ Φ = iprop(Φ 0 ∗ Φ 1) := bigSep_univ_eq_bigSepL [0, 1] (by decide) (by decide) Φ
omit [FloatOps F] in
theorem three (Φ : Fin 3 → sProp 𝕄) : bigSep Finset.univ Φ = iprop(Φ 0 ∗ Φ 1 ∗ Φ 2) := bigSep_univ_eq_bigSepL [0, 1, 2] (by decide) (by decide) Φ
omit [FloatOps F] in
theorem four (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem twelve (Φ : Fin 3 × Fin 4 → sProp 𝕄) : bigSep Finset.univ Φ
    = iprop(Φ (0, 0) ∗ Φ (2, 0) ∗ Φ (1, 0) ∗ Φ (0, 1) ∗ Φ (2, 1) ∗ Φ (1, 1) ∗ Φ (0, 2) ∗ Φ (2, 2) ∗ Φ (1, 2) ∗ Φ (0, 3) ∗ Φ (2, 3) ∗ Φ (1, 3)) :=
  bigSep_univ_eq_bigSepL [(0, 0), (2, 0), (1, 0), (0, 1), (2, 1), (1, 1), (0, 2), (2, 2), (1, 2), (0, 3), (2, 3), (1, 3)] (by decide) (by decide) Φ

/-! ## What goes with a chunk and with a row -/

/-- The payments a chunk's copy makes, -/
def sTok (c : Dev nD) (p : Fin 3 × Fin 4) : sProp 𝕄 :=
  iprop(dutyTok ER (cell c (.send p.1 p.2)) 0 p.1 ∗ dutyTok ER (cell (nxt c p.1) (.recv p.1 p.2)) 0 p.1)
/-- all the copy needs besides the chunk, -/
def sGo (c : Dev nD) (p : Fin 3 × Fin 4) : sProp 𝕄 :=
  iprop(heldAny (c : Thread nD τ) (xbV p.1 p.2) ∗ heldAny (nxt c p.1 : Thread nD τ) (xvV p.1 p.2) ∗ sTok (F := F) c p)
/-- what the wait for it needs, and what is left after. -/
def sWait (c : Dev nD) (p : Fin 3 × Fin 4) : sProp 𝕄 :=
  iprop(cred (tallyAt (cell c (.send p.1 p.2)) () NX) ∗ atPos ER (cell c (.send p.1 p.2)) 0 ∅ 0)
def sEnd (c : Dev nD) (p : Fin 3 × Fin 4) : sProp 𝕄 :=
  iprop(heldAny (c : Thread nD τ) (xbV p.1 p.2) ∗ semVal (cell c (.send p.1 p.2)) 0)
/-- The same of a chunk received. -/
def rWait (c : Dev nD) (p : Fin 3 × Fin 4) : sProp 𝕄 :=
  iprop(cred (tallyAt (cell c (.recv p.1 p.2)) () NX) ∗ atPos ER (cell c (.recv p.1 p.2)) 0 ∅ 0)
def rEnd (c : Dev nD) (p : Fin 3 × Fin 4) : sProp 𝕄 :=
  iprop(heldAny (c : Thread nD τ) (xvV p.1 p.2) ∗ semVal (cell c (.recv p.1 p.2)) 0)
/-- The same of the rows. -/
def mTok (c : Dev nD) (d : Fin 3) : sProp 𝕄 :=
  iprop(dutyTok ER (cell c (.axs d)) 0 d ∗ dutyTok ER (cell (nxt c d) (.axr d)) 0 d)
def mWait (c : Dev nD) (d : Fin 3) : sProp 𝕄 :=
  iprop(cred (tallyAt (cell c (.axr d)) () NA) ∗ atPos ER (cell c (.axr d)) 0 ∅ 0)

/-! ## The sends -/

/-- A chunk narrowed and sent, the next fetch into its slot started. -/
theorem do_turn (d : Fin 3) (r : Fin 4) (s : Fin 2) (d' : Fin 3) (r' : Fin 4) (n : Dev nD) (hn : n = nxt c d) (l : List (Fin 3 × Kd))
    (hl : ∀ x ∈ (d, Kd.recv d r) :: l, 0 < x.2.lev) :
    iprop(records m K ∗ levAts L lv ∗ sdBusy m c d r s ∗ sGo c (d, r) ∗ owesAny c ((d, .recv d r) :: l))
      ⊢ iprop((sdBusy m c d' r' s ∗ cred (tallyAt (cell c (.send d r)) () NX) ∗ owesAny c l -∗ does c k Q)
        -∗ does c (pack c d r s <| fetch c d' r' s <| send n d r k) Q) := by
  unfold sGo sTok
  iintro ⟨#HR, #HL, Hf, ⟨Hb, Hv, Ht1, Ht2⟩, HO⟩ Hk
  iapply (do_pack m d r s _ hl) $$ [Hf Hb HO]
  · iframe ∗ #
  iintro ⟨Hf, Hb, HO⟩
  iapply (do_fetch m d' r' s) $$ Hf
  iintro Hf
  iapply (do_send m d r n hn l) $$ [Hb Hv HO Ht1 Ht2]
  · iframe ∗ #
  iintro ⟨Hc, HO⟩
  iapply Hk
  iframe

/-- The last chunks: no fetch is left to start. -/
theorem do_turnLast (d : Fin 3) (r : Fin 4) (s : Fin 2) (n : Dev nD) (hn : n = nxt c d) (l : List (Fin 3 × Kd))
    (hl : ∀ x ∈ (d, Kd.recv d r) :: l, 0 < x.2.lev) :
    iprop(records m K ∗ levAts L lv ∗ sdBusy m c d r s ∗ sGo c (d, r) ∗ owesAny c ((d, .recv d r) :: l))
      ⊢ iprop((sdIdle m c s ∗ cred (tallyAt (cell c (.send d r)) () NX) ∗ owesAny c l -∗ does c k Q)
        -∗ does c (pack c d r s <| send n d r k) Q) := by
  unfold sGo sTok
  iintro ⟨#HR, #HL, Hf, ⟨Hb, Hv, Ht1, Ht2⟩, HO⟩ Hk
  iapply (do_pack m d r s _ hl) $$ [Hf Hb HO]
  · iframe ∗ #
  iintro ⟨Hf, Hb, HO⟩
  iapply (do_send m d r n hn l) $$ [Hb Hv HO Ht1 Ht2]
  · iframe ∗ #
  iintro ⟨Hc, HO⟩
  iapply Hk
  iframe

/-- The twelve sends. -/
theorem do_sends :
    iprop(records m K ∗ levAts L lv ∗ sdBusy m c 0 0 0 ∗ sdBusy m c 2 0 1 ∗ (bigSep Finset.univ fun p => sGo c p) ∗ owesAny c dueSend)
      ⊢ iprop((sdIdle m c 0 ∗ sdIdle m c 1 ∗ (bigSep Finset.univ fun p : Fin 3 × Fin 4 => cred (tallyAt (cell c (.send p.1 p.2)) () NX)) ∗ owesAny c dueMax -∗ does c k Q)
        -∗ does c (sendsP c k) Q) := by
  unfold sendsP
  rw [twelve, twelve]
  iintro ⟨#HR, #HL, F0, F1, ⟨G0, G1, G2, G3, G4, G5, G6, G7, G8, G9, G10, G11⟩, HO⟩ Hk
  iapply (do_turn m 0 0 0 1 0 _ (dev4_eq c) _ ?_) $$ [F0 G0 HO]
  rotate_left
  · iframe ∗ #
  iintro ⟨F0, C0, HO⟩
  iapply (do_turn m 2 0 1 0 1 _ (dev5_eq c) _ ?_) $$ [F1 G1 HO]
  rotate_left
  · iframe ∗ #
  iintro ⟨F1, C1, HO⟩
  iapply (do_turn m 1 0 0 2 1 _ (dev6_eq c) _ ?_) $$ [F0 G2 HO]
  rotate_left
  · iframe ∗ #
  iintro ⟨F0, C2, HO⟩
  iapply (do_turn m 0 1 1 1 1 _ (dev7_eq c) _ ?_) $$ [F1 G3 HO]
  rotate_left
  · iframe ∗ #
  iintro ⟨F1, C3, HO⟩
  iapply (do_turn m 2 1 0 0 2 _ (dev8_eq c) _ ?_) $$ [F0 G4 HO]
  rotate_left
  · iframe ∗ #
  iintro ⟨F0, C4, HO⟩
  iapply (do_turn m 1 1 1 2 2 _ (dev9_eq c) _ ?_) $$ [F1 G5 HO]
  rotate_left
  · iframe ∗ #
  iintro ⟨F1, C5, HO⟩
  iapply (do_turn m 0 2 0 1 2 _ (dev10_eq c) _ ?_) $$ [F0 G6 HO]
  rotate_left
  · iframe ∗ #
  iintro ⟨F0, C6, HO⟩
  iapply (do_turn m 2 2 1 0 3 _ (dev11_eq c) _ ?_) $$ [F1 G7 HO]
  rotate_left
  · iframe ∗ #
  iintro ⟨F1, C7, HO⟩
  iapply (do_turn m 1 2 0 2 3 _ (dev12_eq c) _ ?_) $$ [F0 G8 HO]
  rotate_left
  · iframe ∗ #
  iintro ⟨F0, C8, HO⟩
  iapply (do_turn m 0 3 1 1 3 _ (dev13_eq c) _ ?_) $$ [F1 G9 HO]
  rotate_left
  · iframe ∗ #
  iintro ⟨F1, C9, HO⟩
  iapply (do_turnLast m 2 3 0 _ (dev14_eq c) _ ?_) $$ [F0 G10 HO]
  rotate_left
  · iframe ∗ #
  iintro ⟨F0, C10, HO⟩
  iapply (do_turnLast m 1 3 1 _ (dev15_eq c) _ ?_) $$ [F1 G11 HO]
  rotate_left
  · iframe ∗ #
  iintro ⟨F1, C11, HO⟩
  iapply Hk
  iframe
  all_goals decide

/-! ## The sums -/

/-- A piece of the result held at `o`. -/
abbrev outH (c : Dev nD) (r : Fin 4) (o : Vec F S256x2048 .f32) : sProp 𝕄 := held (c : Thread nD τ) (outM.slice (outR r) fun _ => rfl) fullShare o

/-- The three received chunks `r` added; what is done in the midst brings the row block of `w` for the last. -/
theorem do_chunk (r : Fin 4) (mid : P (F := F) → P (F := F)) (M : sProp 𝕄)
    (hmid : ∀ (k : P (F := F)) (Q : PUnit → sProp 𝕄), iprop(levAts L lv ∗ M ∗ owesAny c dueMax)
      ⊢ iprop((wcHere m c 1 0 ∗ owesAny c dueMax -∗ does c k Q) -∗ does c (mid k) Q)) {k : Vec F S256x2048 .f32 → P (F := F)} :
    iprop(records m K ∗ levAts L lv ∗ outH c r (part (outR r) (out0 m c)) ∗ wcHere m c 0 1 ∗ wcHere m c 2 2 ∗ M
        ∗ rWait c (0, r) ∗ rWait c (2, r) ∗ rWait c (1, r) ∗ owesAny c dueMax)
      ⊢ iprop((outH c r (out1 m c r) ∗ wcHere m c 0 1 ∗ wcHere m c 2 2 ∗ wcHere m c 1 0 ∗ rEnd c (0, r) ∗ rEnd c (2, r) ∗ rEnd c (1, r) ∗ owesAny c dueMax
          -∗ does c (k (out1 m c r)) Q) -∗ does c (chunk r mid k) Q) := by
  unfold chunk rWait rEnd
  iintro ⟨#HR, #HL, Ho, W1, W2, HM, ⟨C0, A0⟩, ⟨C2, A2⟩, ⟨C1, A1⟩, HO⟩ Hk
  iapply (do_accum m 0 r 1 _ dueMax (by decide)) $$ [Ho W1 C0 A0 HO]
  · iframe ∗ #
  iintro ⟨Ho, W1, X0, Z0, HO⟩
  iapply (do_accum m 2 r 2 _ dueMax (by decide)) $$ [Ho W2 C2 A2 HO]
  · iframe ∗ #
  iintro ⟨Ho, W2, X2, Z2, HO⟩
  iapply (hmid _ Q) $$ [HM HO]
  · iframe ∗ #
  iintro ⟨W0, HO⟩
  iapply (do_accum m 1 r 0 _ dueMax (by decide)) $$ [Ho W0 C1 A1 HO]
  · iframe ∗ #
  iintro ⟨Ho, W0, X1, Z1, HO⟩
  iapply (do_readOut r) $$ Ho
  iintro Ho
  iapply Hk
  unfold out1
  iframe

/-! ## The magnitudes -/

/-- The three shares of a row are the row. -/
theorem row_shares (X : S1x128.Idx → Elt F .f32) :
    (held (c : Thread nD τ) (axRow c) fullShare X : sProp 𝕄) ⊣⊢ iprop(held (c : Thread nD τ) (axRow c) (qa 0) X
      ∗ held (c : Thread nD τ) (axRow c) (qa 1) X ∗ held (c : Thread nD τ) (axRow c) (qa 2) X) :=
  ⟨(held_halves _ _ _ X).1.trans (sep_mono_right (held_halves _ _ _ X).1), (sep_mono_right (held_halves _ _ _ X).2).trans (held_halves _ _ _ X).2⟩

omit [FloatOps F] in
/-- A device's row and the three others' are the four. -/
theorem four_rows (Φ : Dev nD → sProp 𝕄) : iprop(Φ c ∗ bigSep Finset.univ fun d : Fin 3 => Φ (prv c d)) = bigSep Finset.univ Φ := by
  rw [three]
  have key : ∀ c : Dev nD, Finset.univ = [c, prv c 0, prv c 1, prv c 2].toFinset ∧ [c, prv c 0, prv c 1, prv c 2].Nodup := by decide
  exact (bigSep_univ_eq_bigSepL [c, prv c 0, prv c 1, prv c 2] (key c).1 (key c).2 Φ).symm

/-- A device's row and the three others', each with its device's magnitude, are the array of magnitudes. -/
theorem rows_whole : iprop(held (c : Thread nD τ) (axRow c) fullShare (amx m c) ∗ bigSep Finset.univ fun d : Fin 3 => held (c : Thread nD τ) (axRow (prv c d)) fullShare (amx m (prv c d)))
      ⊢ (held (c : Thread nD τ) axM fullShare (axAll m) : sProp 𝕄) := by
  have h := held_glue (Ix := Unit) (Val := Elt F) (Name := ℕ) (U := UU) (Lvl := ℕ) (c : Thread nD τ) axM rowR (fun _ _ => rfl) row_dis row_cov fullShare (fun p => amx m p)
  unfold axAll
  rw [← h]
  exact Entails.of_eq (four_rows (c := c) fun p => held (c : Thread nD τ) (axRow p) fullShare (amx m p))

/-- The sends over, the magnitudes exchanged, the result written. -/
theorem do_tail :
    iprop(records m K ∗ levAts L lv ∗ (bigSep Finset.univ fun p => sWait c p) ∗ heldAny (c : Thread nD τ) (axRow c)
        ∗ (bigSep Finset.univ fun d : Fin 3 => heldAny (nxt c d : Thread nD τ) (axRow c)) ∗ (bigSep Finset.univ fun d => mTok c d)
        ∗ (bigSep Finset.univ fun d => atPos ER (cell c (.axs d)) 0 ∅ 0) ∗ (bigSep Finset.univ fun d => mWait c d)
        ∗ held (c : Thread nD τ) outM fullShare (outAll m c) ∗ owesAny c dueMax)
      ⊢ iprop(((bigSep Finset.univ fun p => sEnd c p) ∗ heldAny (c : Thread nD τ) axM ∗ (bigSep Finset.univ fun d => semVal (cell c (.axs d)) 0)
          ∗ (bigSep Finset.univ fun d => semVal (cell c (.axr d)) 0) ∗ held (c : Thread nD τ) outM fullShare (fin m c) ∗ owesAny c [] -∗ Q ⟨⟩)
        -∗ does c (tailP c (amx m c)) Q) := by
  unfold tailP
  rw [twelve, twelve, three, three, three, three, three, three]
  unfold sWait sEnd mTok mWait
  iintro ⟨#HR, #HL, ⟨⟨C0, A0⟩, ⟨C1, A1⟩, ⟨C2, A2⟩, ⟨C3, A3⟩, ⟨C4, A4⟩, ⟨C5, A5⟩, ⟨C6, A6⟩, ⟨C7, A7⟩, ⟨C8, A8⟩, ⟨C9, A9⟩, ⟨C10, A10⟩, ⟨C11, A11⟩⟩, Ha, ⟨L0, L1, L2⟩, ⟨⟨T0, U0⟩, ⟨T1, U1⟩, ⟨T2, U2⟩⟩, ⟨P0, P1, P2⟩, ⟨⟨D0, R0⟩, ⟨D1, R1⟩, ⟨D2, R2⟩⟩, Hout, HO⟩ Hk
  iapply (do_waitSend m 0 0 dueMax (by decide)) $$ [C0 A0 HO]
  · iframe ∗ #
  iintro ⟨B0, Z0, HO⟩
  iapply (do_waitSend m 2 0 dueMax (by decide)) $$ [C1 A1 HO]
  · iframe ∗ #
  iintro ⟨B1, Z1, HO⟩
  iapply (do_waitSend m 1 0 dueMax (by decide)) $$ [C2 A2 HO]
  · iframe ∗ #
  iintro ⟨B2, Z2, HO⟩
  iapply (do_waitSend m 0 1 dueMax (by decide)) $$ [C3 A3 HO]
  · iframe ∗ #
  iintro ⟨B3, Z3, HO⟩
  iapply (do_waitSend m 2 1 dueMax (by decide)) $$ [C4 A4 HO]
  · iframe ∗ #
  iintro ⟨B4, Z4, HO⟩
  iapply (do_waitSend m 1 1 dueMax (by decide)) $$ [C5 A5 HO]
  · iframe ∗ #
  iintro ⟨B5, Z5, HO⟩
  iapply (do_waitSend m 0 2 dueMax (by decide)) $$ [C6 A6 HO]
  · iframe ∗ #
  iintro ⟨B6, Z6, HO⟩
  iapply (do_waitSend m 2 2 dueMax (by decide)) $$ [C7 A7 HO]
  · iframe ∗ #
  iintro ⟨B7, Z7, HO⟩
  iapply (do_waitSend m 1 2 dueMax (by decide)) $$ [C8 A8 HO]
  · iframe ∗ #
  iintro ⟨B8, Z8, HO⟩
  iapply (do_waitSend m 0 3 dueMax (by decide)) $$ [C9 A9 HO]
  · iframe ∗ #
  iintro ⟨B9, Z9, HO⟩
  iapply (do_waitSend m 2 3 dueMax (by decide)) $$ [C10 A10 HO]
  · iframe ∗ #
  iintro ⟨B10, Z10, HO⟩
  iapply (do_waitSend m 1 3 dueMax (by decide)) $$ [C11 A11 HO]
  · iframe ∗ #
  iintro ⟨B11, Z11, HO⟩
  iapply (do_putMax (amx m c)) $$ Ha
  iintro Ha
  ihave Ha := (row_shares (c := c) (amx m c)).1 $$ Ha
  icases Ha with ⟨H0, H1, H2⟩
  iapply (do_sendMax m 0 _ (dev16_eq c) _) $$ [H0 L0 HO T0 U0]
  · iframe ∗ #
  iintro ⟨S0, HO⟩
  iapply (do_sendMax m 1 _ (dev17_eq c) _) $$ [H1 L1 HO T1 U1]
  · iframe ∗ #
  iintro ⟨S1, HO⟩
  iapply (do_sendMax m 2 _ (dev18_eq c) _) $$ [H2 L2 HO T2 U2]
  · iframe ∗ #
  iintro ⟨S2, HO⟩
  iapply (do_waitMax m 0) $$ [D0 R0 HO]
  · iframe ∗ #
  iintro ⟨G0, Y0, HO⟩
  iapply (do_waitMax m 1) $$ [D1 R1 HO]
  · iframe ∗ #
  iintro ⟨G1, Y1, HO⟩
  iapply (do_waitMax m 2) $$ [D2 R2 HO]
  · iframe ∗ #
  iintro ⟨G2, Y2, HO⟩
  iapply (do_waitMaxSend m 0) $$ [S0 P0 HO]
  · iframe ∗ #
  iintro ⟨H0, V0, HO⟩
  iapply (do_waitMaxSend m 1) $$ [S1 P1 HO]
  · iframe ∗ #
  iintro ⟨H1, V1, HO⟩
  iapply (do_waitMaxSend m 2) $$ [S2 P2 HO]
  · iframe ∗ #
  iintro ⟨H2, V2, HO⟩
  ihave Ha := (row_shares (c := c) (amx m c)).2 $$ [H0 H1 H2]
  · iframe
  ihave Ha := (rows_whole m) $$ [Ha G0 G1 G2]
  · rw [three]; iframe
  iapply (do_finish m) $$ [Ha Hout]
  · iframe
  iintro ⟨Ha, Hout⟩
  ihave Ha := (heldAny_intro (c : Thread nD τ) axM _) $$ Ha
  iapply Hk
  iframe

/-! ## The arrays whole and in pieces -/

/-- A piece held without its unit axis is the piece held. -/
theorem heldAny_squeeze {s s' : Shape} {e : EltTy} (M : Memref sig .tc .vmem s e) (hq : s.Squeezes s') (h : s'.ShapeCasts s) (h' : s.ShapeCasts s') :
    (heldAny (c : Thread nD τ) M : sProp 𝕄) ⊣⊢ heldAny (c : Thread nD τ) (M.squeeze s' hq) := by
  constructor
  · iintro H
    ihave H := (heldAny_elim (c : Thread nD τ) M) $$ H
    icases H with ⟨%X, H⟩
    iapply (heldAny_intro (c : Thread nD τ) (M.squeeze s' hq) (shapeCast s' X h'))
    iapply (held_squeeze (c : Thread nD τ) M hq h' fullShare X) $$ H
  · iintro H
    ihave H := (heldAny_elim (c : Thread nD τ) (M.squeeze s' hq)) $$ H
    icases H with ⟨%X, H⟩
    iapply (heldAny_intro (c : Thread nD τ) M (shapeCast s X h))
    iapply (held_unsqueeze (c : Thread nD τ) M hq h fullShare X) $$ H

/-- Three slabs are their twelve chunks, -/
theorem chunks (M : Memref sig .tc .vmem S3x1024x1024 .bf16) : (heldAny (c : Thread nD τ) M : sProp 𝕄) ⊣⊢
    bigSep Finset.univ fun p => heldAny (c : Thread nD τ) ((M.slice (chunkR p) fun _ => rfl).squeeze S256x1024 squeezes_S1x256x1024_S256x1024) := by
  have h := heldAny_pieces (Ix := Unit) (Val := Elt F) (Name := ℕ) (U := UU) (Lvl := ℕ) (c : Thread nD τ) M chunkR (fun _ _ => rfl) chunk_dis chunk_cov
  have g p := heldAny_squeeze (F := F) (c := c) (M.slice (chunkR p) fun _ => rfl) squeezes_S1x256x1024_S256x1024 sc_x shapeCasts_S1x256x1024_S256x1024
  exact ⟨h.1.trans (bigSep_mono fun p _ => (g p).1), (bigSep_mono fun p _ => (g p).2).trans h.2⟩
/-- the fetch buffer its two slots, -/
theorem slots_x : (heldAny (c : Thread nD τ) xsM : sProp 𝕄) ⊣⊢ bigSep Finset.univ fun s => heldAny (c : Thread nD τ) (xsV s) := by
  have h := heldAny_pieces (Ix := Unit) (Val := Elt F) (Name := ℕ) (U := UU) (Lvl := ℕ) (c : Thread nD τ) xsM xsR (fun _ _ => rfl) xs_dis xs_cov
  have g s := heldAny_squeeze (F := F) (c := c) (xsM.slice (xsR s) fun _ => rfl) squeezes_S1x256x1024_S256x1024 sc_x shapeCasts_S1x256x1024_S256x1024
  exact ⟨h.1.trans (bigSep_mono fun p _ => (g p).1), (bigSep_mono fun p _ => (g p).2).trans h.2⟩
/-- the buffer of `w` its three slots, -/
theorem slots_w : (heldAny (c : Thread nD τ) wvM : sProp 𝕄) ⊣⊢ bigSep Finset.univ fun s => heldAny (c : Thread nD τ) (wvV s) := by
  have h := heldAny_pieces (Ix := Unit) (Val := Elt F) (Name := ℕ) (U := UU) (Lvl := ℕ) (c : Thread nD τ) wvM wvR (fun _ _ => rfl) wv_dis wv_cov
  have g s := heldAny_squeeze (F := F) (c := c) (wvM.slice (wvR s) fun _ => rfl) squeezes_S1x1024x2048_S1024x2048 sc_w shapeCasts_S1x1024x2048_S1024x2048
  exact ⟨h.1.trans (bigSep_mono fun p _ => (g p).1), (bigSep_mono fun p _ => (g p).2).trans h.2⟩
/-- the magnitudes the device's row and the rows of the three devices ahead, -/
theorem rows_any : (heldAny (c : Thread nD τ) axM : sProp 𝕄) ⊢
    iprop(heldAny (c : Thread nD τ) (axRow c) ∗ bigSep Finset.univ fun d => heldAny (c : Thread nD τ) (axRow (nxt c d))) := by
  have h := heldAny_pieces (Ix := Unit) (Val := Elt F) (Name := ℕ) (U := UU) (Lvl := ℕ) (c : Thread nD τ) axM rowR (fun _ _ => rfl) row_dis row_cov
  refine h.1.trans (Entails.of_eq ?_)
  have e := four_rows (F := F) (c := c) fun p => heldAny (c : Thread nD τ) (axRow p)
  rw [← e, bigSep_univ_equiv Fin.revPerm fun d => heldAny (c : Thread nD τ) (axRow (nxt c d))]
  rfl
/-- and the result its four chunks. -/
theorem out_cut (X : S1024x2048.Idx → Elt F .f32) : (held (c : Thread nD τ) outM fullShare X : sProp 𝕄) ⊢ bigSep Finset.univ fun r => outH c r (part (outR r) X) :=
  Entails.of_eq (held_pieces (Ix := Unit) (Val := Elt F) (Name := ℕ) (U := UU) (Lvl := ℕ) (c : Thread nD τ) outM outR (fun _ _ => rfl) out_dis out_cov fullShare X)
theorem out_glue : (bigSep Finset.univ fun r => outH c r (out1 m c r)) ⊢ (held (c : Thread nD τ) outM fullShare (outAll m c) : sProp 𝕄) :=
  Entails.of_eq (held_glue (Ix := Unit) (Val := Elt F) (Name := ℕ) (U := UU) (Lvl := ℕ) (c : Thread nD τ) outM outR (fun _ _ => rfl) out_dis out_cov fullShare fun r => out1 m c r)

/-! ## The sums, and what follows them -/

/-- Nothing in the midst of a chunk's sums. -/
theorem mid_none (k : P (F := F)) (Q : PUnit → sProp 𝕄) : iprop(levAts L lv ∗ wcHere m c 1 0 ∗ owesAny c dueMax)
      ⊢ iprop((wcHere m c 1 0 ∗ owesAny c dueMax -∗ does c k Q) -∗ does c (id k) Q) := by
  iintro ⟨-, Hw, HO⟩ Hk
  iapply Hk
  iframe

/-- What the exchange of magnitudes needs, and what it leaves. -/
def mIn (c : Dev nD) : sProp 𝕄 :=
  iprop(heldAny (c : Thread nD τ) (axRow c) ∗ (bigSep Finset.univ fun d : Fin 3 => heldAny (nxt c d : Thread nD τ) (axRow c)) ∗ (bigSep Finset.univ fun d => mTok (F := F) c d)
        ∗ (bigSep Finset.univ fun d => atPos ER (cell c (.axs d)) 0 ∅ 0) ∗ (bigSep Finset.univ fun d => mWait (F := F) c d))
def mOut (c : Dev nD) : sProp 𝕄 :=
  iprop(heldAny (c : Thread nD τ) axM ∗ (bigSep Finset.univ fun d => semVal (cell c (.axs d)) 0) ∗ (bigSep Finset.univ fun d => semVal (cell c (.axr d)) 0))

theorem do_sums :
    iprop(records m K ∗ levAts L lv ∗ xdBusy m c ∗ woBusy m c ∗ wcBusy m c 0 1 ∗ wcBusy m c 2 2 ∗ heldAny (c : Thread nD τ) outM
        ∗ (bigSep Finset.univ fun p => rWait c p) ∗ (bigSep Finset.univ fun p => sWait c p) ∗ mIn c ∗ owesAny c dueMax)
      ⊢ iprop((xdIdle m c ∗ wdIdle m c 0 ∗ wdIdle m c 1 ∗ wdIdle m c 2 ∗ (bigSep Finset.univ fun p => rEnd c p) ∗ (bigSep Finset.univ fun p => sEnd c p)
          ∗ mOut c ∗ held (c : Thread nD τ) outM fullShare (fin m c) ∗ owesAny c [] -∗ Q ⟨⟩)
        -∗ does c (sumsP c) Q) := by
  unfold sumsP
  rw [twelve fun p => rWait c p, twelve fun p => rEnd c p]
  iintro ⟨#HR, #HL, Hx, Hw, W1, W2, Hout, ⟨C0, C1, C2, C3, C4, C5, C6, C7, C8, C9, C10, C11⟩, HS, HM, HO⟩ Hk
  iapply (do_ownProd m dueMax (by decide)) $$ [Hx Hw Hout HO]
  · iframe ∗ #
  iintro ⟨Hx, W0, Hout, HO⟩
  iapply (do_fetchWC m 1 0) $$ W0
  iintro W0
  iapply (do_waitW m 0 1 dueMax (by decide)) $$ [W1 HO]
  · iframe ∗ #
  iintro ⟨W1, HO⟩
  iapply (do_waitW m 2 2 dueMax (by decide)) $$ [W2 HO]
  · iframe ∗ #
  iintro ⟨W2, HO⟩
  ihave Hout := (out_cut (out0 m c)) $$ Hout
  ihave Hout := (Entails.of_eq (four fun r => outH c r (part (outR r) (out0 m c)))) $$ Hout
  icases Hout with ⟨O0, O1, O2, O3⟩
  iapply (do_chunk m 0 (waitW (wC c 1) (View.wordExact_bits rfl) 0) (wcBusy m c 1 0) (fun k Q => do_waitW m 1 0 dueMax (by decide))) $$ [O0 W0 W1 W2 C0 C1 C2 HO]
  · iframe ∗ #
  iintro ⟨O0, W1, W2, W0, X0, X1, X2, HO⟩
  iapply (do_chunk m 1 id (wcHere m c 1 0) (mid_none m)) $$ [O1 W0 W1 W2 C3 C4 C5 HO]
  · iframe ∗ #
  iintro ⟨O1, W1, W2, W0, X3, X4, X5, HO⟩
  iapply (do_chunk m 2 id (wcHere m c 1 0) (mid_none m)) $$ [O2 W0 W1 W2 C6 C7 C8 HO]
  · iframe ∗ #
  iintro ⟨O2, W1, W2, W0, X6, X7, X8, HO⟩
  iapply (do_chunk m 3 id (wcHere m c 1 0) (mid_none m)) $$ [O3 W0 W1 W2 C9 C10 C11 HO]
  · iframe ∗ #
  iintro ⟨O3, W1, W2, W0, X9, X10, X11, HO⟩
  ihave Hout := (out_glue m) $$ [O0 O1 O2 O3]
  · rw [four]; iframe
  unfold mIn
  icases HM with ⟨Ha, Hl, Ht, Hp, Hm⟩
  iapply (do_tail m) $$ [HS Ha Hl Ht Hp Hm Hout HO]
  · iframe ∗ #
  iintro ⟨HS, Ha, Hp, Hm, Hout, HO⟩
  ihave W0 := (wcHere_idle m 1 0) $$ W0
  ihave W1 := (wcHere_idle m 0 1) $$ W1
  ihave W2 := (wcHere_idle m 2 2) $$ W2
  iapply Hk
  unfold mOut
  iframe

end Cert.KernelIdeal.Run

end
-- ==== Proof.Body.lean ====
/-
  The kernel body, from what a device holds on entering to what it holds at the end.
-/
module

public import proofs.«01_k».proof.Proof.Phases

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

local notation "𝕄" => MT nD τ sig Unit (Elt F) ℕ UU ℕ

variable (m : (ℓ : Loc nD τ sig) → Buf (Elt F) ℓ)
variable {K : Dev nD × Kd → ℕ} {c : Dev nD} {k : P (F := F)} {Q : PUnit → sProp (MT nD τ sig Unit (Elt F) ℕ UU ℕ)}

/-! ## Entering -/

omit [FloatOps F] in
/-- The three slabs counted from the other end. -/
theorem three_rv (Φ : Fin 3 → sProp 𝕄) : bigSep Finset.univ Φ = iprop(Φ (rv 0) ∗ Φ (rv 1) ∗ Φ (rv 2)) := by
  rw [bigSep_univ_equiv Fin.revPerm Φ, three]; rfl

/-- A device's landing slabs, by the device each is for. -/
theorem landing : (heldAny (c : Thread nD τ) xvM : sProp 𝕄) ⊢
    iprop((bigSep Finset.univ fun r : Fin 4 => heldAny (c : Thread nD τ) (xvV (rv 0) r)) ∗ (bigSep Finset.univ fun r : Fin 4 => heldAny (c : Thread nD τ) (xvV (rv 1) r))
      ∗ bigSep Finset.univ fun r : Fin 4 => heldAny (c : Thread nD τ) (xvV (rv 2) r)) := by
  have h := three_rv (F := F) fun d => bigSep Finset.univ fun r : Fin 4 => heldAny (c : Thread nD τ) (xvV d r)
  rw [← h, ← bigSep_univ_prod fun p : Fin 3 × Fin 4 => heldAny (c : Thread nD τ) (xvV p.1 p.2)]
  exact (chunks xvM).1

/-- What the three others hand over at the barrier: where the twelve chunks and the three rows are to land. -/
theorem handed : (bigSep Finset.univ fun e : Fin 3 => barPay (F := F) c e) ⊢
    iprop((bigSep Finset.univ fun p : Fin 3 × Fin 4 => heldAny (nxt c p.1 : Thread nD τ) (xvV p.1 p.2))
      ∗ bigSep Finset.univ fun d : Fin 3 => heldAny (nxt c d : Thread nD τ) (axRow c)) := by
  unfold barPay
  rw [bigSep_sep', ← bigSep_univ_prod fun p : Fin 3 × Fin 4 => heldAny (nxt c p.1 : Thread nD τ) (xvV p.1 p.2)]

/-- The barrier passed and the first fetches started. -/
theorem do_enter :
    iprop(records m K ∗ levAts L lv ∗ (bigSep Finset.univ fun d : Fin 3 => dutyTok ER (cell (nxt c d) .bar) 0 d) ∗ cred (tallyAt (cell c .bar) () 3)
        ∗ atPos ER (cell c .bar) 0 ∅ 0 ∗ heldAny (c : Thread nD τ) xvM ∗ heldAny (c : Thread nD τ) axM ∗ sdIdle m c 0 ∗ sdIdle m c 1 ∗ xdIdle m c
        ∗ wdIdle m c 0 ∗ wdIdle m c 1 ∗ wdIdle m c 2 ∗ owesAny c dueAll)
      ⊢ iprop((sdBusy m c 0 0 0 ∗ sdBusy m c 2 0 1 ∗ xdBusy m c ∗ woBusy m c ∗ wcBusy m c 0 1 ∗ wcBusy m c 2 2
          ∗ (bigSep Finset.univ fun p : Fin 3 × Fin 4 => heldAny (nxt c p.1 : Thread nD τ) (xvV p.1 p.2))
          ∗ (bigSep Finset.univ fun d : Fin 3 => heldAny (nxt c d : Thread nD τ) (axRow c)) ∗ heldAny (c : Thread nD τ) (axRow c)
          ∗ semVal (cell c .bar) 0 ∗ owesAny c dueSend -∗ does c k Q) -∗ does c (enterP c k) Q) := by
  unfold enterP
  rw [three fun d : Fin 3 => dutyTok ER (cell (nxt c d) .bar) 0 d]
  iintro ⟨#HR, #HL, ⟨T0, T1, T2⟩, Hc, Hat, Hx, Ha, F0, F1, FX, W0, W1, W2, HO⟩ Hk
  ihave Hx := landing $$ Hx
  icases Hx with ⟨X0, X1, X2⟩
  ihave Ha := rows_any $$ Ha
  icases Ha with ⟨Ha, Hr⟩
  ihave Hr := (Entails.of_eq (three fun d => heldAny (c : Thread nD τ) (axRow (nxt c d)))) $$ Hr
  icases Hr with ⟨R0, R1, R2⟩
  iapply (do_sig m 0 _ (dev1_eq c) _) $$ [T0 X0 R0 HO]
  · iframe ∗ #
  iintro HO
  iapply (do_sig m 1 _ (dev2_eq c) _) $$ [T1 X1 R1 HO]
  · iframe ∗ #
  iintro HO
  iapply (do_sig m 2 _ (dev3_eq c) _) $$ [T2 X2 R2 HO]
  · iframe ∗ #
  iintro HO
  iapply (do_waitBar m dueSend (by decide)) $$ [Hc Hat HO]
  · iframe ∗ #
  iintro ⟨Hp, Hz, HO⟩
  ihave Hp := handed $$ Hp
  icases Hp with ⟨Hv, Hl⟩
  iapply (do_fetch m 0 0 0) $$ F0
  iintro F0
  iapply (do_fetch m 2 0 1) $$ F1
  iintro F1
  iapply (do_fetchX m) $$ FX
  iintro FX
  iapply (do_fetchWO m) $$ W0
  iintro W0
  iapply (do_fetchWC m 0 1) $$ W1
  iintro W1
  iapply (do_fetchWC m 2 2) $$ W2
  iintro W2
  iapply Hk
  iframe

/-! ## The whole body -/

/-- The tokens, positions and credits of one device. -/
def ghost (c : Dev nD) : sProp 𝕄 :=
  iprop((bigSep Finset.univ fun d : Fin 3 => dutyTok ER (cell (nxt c d) .bar) 0 d) ∗ cred (tallyAt (cell c .bar) () 3) ∗ atPos ER (cell c .bar) 0 ∅ 0
    ∗ (bigSep Finset.univ fun p => sTok (F := F) c p) ∗ (bigSep Finset.univ fun p : Fin 3 × Fin 4 => atPos ER (cell c (.send p.1 p.2)) 0 ∅ 0)
    ∗ (bigSep Finset.univ fun p => rWait (F := F) c p) ∗ (bigSep Finset.univ fun d => mTok (F := F) c d)
    ∗ (bigSep Finset.univ fun d => atPos ER (cell c (.axs d)) 0 ∅ 0) ∗ (bigSep Finset.univ fun d => mWait (F := F) c d))

/-- The six scratch arrays, at contents not named. -/
def scratch (c : Dev nD) : sProp 𝕄 :=
  iprop(heldAny (c : Thread nD τ) xsM ∗ heldAny (c : Thread nD τ) xbM ∗ heldAny (c : Thread nD τ) xvM ∗ heldAny (c : Thread nD τ) xmM
    ∗ heldAny (c : Thread nD τ) wvM ∗ heldAny (c : Thread nD τ) axM)

/-- The counters of the fetches' semaphores. -/
def fetchSems (c : Dev nD) : sProp 𝕄 :=
  iprop((bigSep Finset.univ fun s : Fin 2 => semVal ((c : Thread nD τ), SemLoc.dma (sdS s)) 0) ∗ semVal ((c : Thread nD τ), SemLoc.dma xdS) 0
    ∗ bigSep Finset.univ fun s : Fin 3 => semVal ((c : Thread nD τ), SemLoc.dma (wdS s)) 0)

/-- The counters of the cells' semaphores. -/
def cellSems (c : Dev nD) : sProp 𝕄 :=
  iprop(semVal (cell c .bar) 0 ∗ (bigSep Finset.univ fun p : Fin 3 × Fin 4 => semVal (cell c (.send p.1 p.2)) 0)
    ∗ (bigSep Finset.univ fun p : Fin 3 × Fin 4 => semVal (cell c (.recv p.1 p.2)) 0) ∗ (bigSep Finset.univ fun d => semVal (cell c (.axs d)) 0)
    ∗ bigSep Finset.univ fun d => semVal (cell c (.axr d)) 0)

/-- The left half of an array read by three fetches at once is their three shares. -/
theorem thirds {sp : Space} {s : Shape} {e : EltTy} (M : Memref sig .tc sp s e) (X : s.Idx → Elt F e) :
    (held (c : Thread nD τ) M (fullShare : PosShare TreeShare).left X : sProp 𝕄)
      ⊣⊢ iprop(held (c : Thread nD τ) M (qw 0) X ∗ held (c : Thread nD τ) M (qw 1) X ∗ held (c : Thread nD τ) M (qw 2) X) :=
  ⟨(held_halves _ _ _ X).1.trans (sep_mono_right (held_halves _ _ _ X).1), (sep_mono_right (held_halves _ _ _ X).2).trans (held_halves _ _ _ X).2⟩

/-- The body: from its tokens, the left halves of `x` and `w`, and its scratch, a device ends with the result in its staging
    buffer, its scratch at some contents, every counter at zero and nothing owed. -/
theorem do_body :
    iprop(records m K ∗ levAts L lv ∗ ghost c ∗ held (c : Thread nD τ) xM (fullShare : PosShare TreeShare).left (xAt m c)
        ∗ held (c : Thread nD τ) wM (fullShare : PosShare TreeShare).left (wAt m c) ∗ scratch c ∗ fetchSems c ∗ heldAny (c : Thread nD τ) outM ∗ owesAny c dueAll)
      ⊢ iprop((scratch c ∗ fetchSems c ∗ cellSems c ∗ held (c : Thread nD τ) outM fullShare (fin m c) ∗ owesAny c [] -∗ Q ⟨⟩) -∗ does c bodyP Q) := by
  unfold bodyP ghost fetchSems scratch
  simp only [does, wp_deviceId]
  iintro ⟨#HR, #HL, ⟨Tb, Cb, Pb, Ts, Ps, Wr, Tm, Pm, Wm⟩, Hx, Hw, ⟨Xs, Xb, Xv, Xm, Wv, Ax⟩, ⟨Zs, Zx, Zw⟩, Hout, HO⟩ Hk
  ihave Hx := (show held (c : Thread nD τ) xM (fullShare : PosShare TreeShare).left (xAt m c) ⊢ iprop(held (c : Thread nD τ) xM (qx 0) (xAt m c)
      ∗ held (c : Thread nD τ) xM (qx 1) (xAt m c) ∗ held (c : Thread nD τ) xM qo (xAt m c)) from (thirds xM (xAt m c)).1) $$ Hx
  icases Hx with ⟨Hx0, Hx1, Hxo⟩
  ihave Hw := (thirds wM (wAt m c)).1 $$ Hw
  icases Hw with ⟨Hw0, Hw1, Hw2⟩
  ihave Xs := slots_x.1 $$ Xs
  ihave Xs := (Entails.of_eq (two fun s => heldAny (c : Thread nD τ) (xsV s))) $$ Xs
  icases Xs with ⟨Xs0, Xs1⟩
  ihave Wv := slots_w.1 $$ Wv
  ihave Wv := (Entails.of_eq (three fun s => heldAny (c : Thread nD τ) (wvV s))) $$ Wv
  icases Wv with ⟨Wv0, Wv1, Wv2⟩
  ihave Zs := (Entails.of_eq (two fun s => semVal ((c : Thread nD τ), SemLoc.dma (sdS s)) 0)) $$ Zs
  icases Zs with ⟨Zs0, Zs1⟩
  ihave Zw := (Entails.of_eq (three fun s => semVal ((c : Thread nD τ), SemLoc.dma (wdS s)) 0)) $$ Zw
  icases Zw with ⟨Zw0, Zw1, Zw2⟩
  iapply (do_enter m) $$ [Tb Cb Pb Xv Ax Hx0 Hx1 Hxo Hw0 Hw1 Hw2 Xs0 Xs1 Xm Wv0 Wv1 Wv2 Zs0 Zs1 Zx Zw0 Zw1 Zw2 HO]
  · unfold sdIdle xdIdle wdIdle idle
    iframe ∗ #
  iintro ⟨F0, F1, FX, W0, W1, W2, Hv, Hl, Ha, Zb, HO⟩
  ihave Xb := (chunks xbM).1 $$ Xb
  ihave G := (show iprop((bigSep Finset.univ fun p : Fin 3 × Fin 4 => heldAny (c : Thread nD τ) (xbV p.1 p.2))
      ∗ (bigSep Finset.univ fun p : Fin 3 × Fin 4 => heldAny (nxt c p.1 : Thread nD τ) (xvV p.1 p.2)) ∗ bigSep Finset.univ fun p => sTok (F := F) c p)
      ⊢ bigSep Finset.univ fun p => sGo c p from by unfold sGo; rw [bigSep_sep', bigSep_sep']) $$ [Xb Hv Ts]
  · isplitl [Xb]; · iexact Xb
    iframe
  iapply (do_sends m) $$ [F0 F1 G HO]
  · iframe ∗ #
  iintro ⟨F0, F1, C, HO⟩
  ihave S := (show iprop((bigSep Finset.univ fun p : Fin 3 × Fin 4 => cred (tallyAt (cell c (.send p.1 p.2)) () NX))
      ∗ bigSep Finset.univ fun p : Fin 3 × Fin 4 => atPos ER (cell c (.send p.1 p.2)) 0 ∅ 0)
      ⊢ bigSep Finset.univ fun p => sWait c p from by unfold sWait; rw [bigSep_sep']) $$ [C Ps]
  · iframe
  iapply (do_sums m) $$ [FX W0 W1 W2 Hout Wr S Ha Hl Tm Pm Wm HO]
  · unfold mIn
    iframe ∗ #
  iintro ⟨FX, W0, W1, W2, R, S, M, Hout, HO⟩
  ihave R := (show (bigSep Finset.univ fun p => rEnd (F := F) c p) ⊢ iprop((bigSep Finset.univ fun p : Fin 3 × Fin 4 => heldAny (c : Thread nD τ) (xvV p.1 p.2))
      ∗ bigSep Finset.univ fun p : Fin 3 × Fin 4 => semVal (cell c (.recv p.1 p.2)) 0) from by unfold rEnd; rw [bigSep_sep']) $$ R
  icases R with ⟨Xv, Zr⟩
  ihave S := (show (bigSep Finset.univ fun p => sEnd (F := F) c p) ⊢ iprop((bigSep Finset.univ fun p : Fin 3 × Fin 4 => heldAny (c : Thread nD τ) (xbV p.1 p.2))
      ∗ bigSep Finset.univ fun p : Fin 3 × Fin 4 => semVal (cell c (.send p.1 p.2)) 0) from by unfold sEnd; rw [bigSep_sep']) $$ S
  icases S with ⟨Xb, Zn⟩
  ihave Xv := (chunks xvM).2 $$ Xv
  ihave Xb := (chunks xbM).2 $$ Xb
  unfold mOut sdIdle xdIdle wdIdle idle
  icases M with ⟨Ax, Zas, Zar⟩
  icases F0 with ⟨⟨-, Zs0⟩, Xs0⟩
  icases F1 with ⟨⟨-, Zs1⟩, Xs1⟩
  icases FX with ⟨⟨-, Zx⟩, Xm⟩
  icases W0 with ⟨⟨-, Zw0⟩, Wv0⟩
  icases W1 with ⟨⟨-, Zw1⟩, Wv1⟩
  icases W2 with ⟨⟨-, Zw2⟩, Wv2⟩
  ihave Xs := slots_x.2 $$ [Xs0 Xs1]
  · rw [two]; iframe
  ihave Wv := slots_w.2 $$ [Wv0 Wv1 Wv2]
  · rw [three]; iframe
  iapply Hk
  unfold cellSems
  rw [two, three fun s => semVal ((c : Thread nD τ), SemLoc.dma (wdS s)) 0]
  iframe

end Cert.KernelIdeal.Run

end
-- ==== Proof.Run.lean ====
/-
  The launch: the tokens and credits dealt to the devices, the body obligation, and the run of the whole program.
-/
module

public import proofs.«01_k».proof.Proof.Body
public import proofs.«01_k».proof.Proof.Gen.KernelIdeal.Frame
public import Idealize.ShloMosaic.Lib.Pipeline.CollectiveSegs

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen Cert.Held

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells -/

/-- A family over a device's cells, sort by sort. -/
theorem kinds (Φ : Kd → sProp 𝕄) :
    bigSep Finset.univ Φ = iprop(Φ .bar ∗ (bigSep Finset.univ fun p : Fin 3 × Fin 4 => Φ (.recv p.1 p.2)) ∗ (bigSep Finset.univ fun d => Φ (.axr d))
      ∗ (bigSep Finset.univ fun p : Fin 3 × Fin 4 => Φ (.send p.1 p.2)) ∗ bigSep Finset.univ fun d => Φ (.axs d)) := by
  rw [bigSep_univ_equiv kdEquiv, bigSep_univ_sum, bigSep_univ_sum, bigSep_univ_sum, bigSep_univ_sum]
  rw [show (Finset.univ : Finset Unit) = {()} from rfl, bigSep_singleton]
  rfl

/-- What every device holds for the device so far ahead of itself is what every device has held for it. -/
theorem around {I : Type} [Fintype I] [DecidableEq I] (f : I → Fin 3) (Φ : Dev nD → I → sProp 𝕄) :
    (bigSep Finset.univ fun c : Dev nD => bigSep Finset.univ fun i => Φ c i)
      = bigSep Finset.univ fun c : Dev nD => bigSep Finset.univ fun i => Φ (nxt c (f i)) i := by
  rw [bigSep_univ_comm, bigSep_univ_comm (fun (c : Dev nD) i => Φ (nxt c (f i)) i)]
  exact bigSep_congr fun i _ => bigSep_univ_equiv (turn (f i)) fun c => Φ c i

/-! ## The tokens, dealt -/

/-- The tokens of a device's own cells that are paid at all, -/
def own (c : Dev nD) : sProp 𝕄 :=
  iprop((bigSep Finset.univ fun d : Fin 3 => dutyTok ER (cell c .bar) 0 d) ∗ (bigSep Finset.univ fun p : Fin 3 × Fin 4 => dutyTok ER (cell c (.recv p.1 p.2)) 0 p.1)
    ∗ (bigSep Finset.univ fun d => dutyTok ER (cell c (.axr d)) 0 d) ∗ (bigSep Finset.univ fun p : Fin 3 × Fin 4 => dutyTok ER (cell c (.send p.1 p.2)) 0 p.1)
    ∗ bigSep Finset.univ fun d => dutyTok ER (cell c (.axs d)) 0 d)
/-- and the tokens of the payments a device makes. -/
def pays (c : Dev nD) : sProp 𝕄 :=
  iprop((bigSep Finset.univ fun d : Fin 3 => dutyTok ER (cell (nxt c d) .bar) 0 d) ∗ (bigSep Finset.univ fun p => sTok (F := F) c p)
    ∗ bigSep Finset.univ fun d => mTok (F := F) c d)

/-- Of each member's family, one. -/
theorem pick_each {J : Type} [Fintype J] [DecidableEq J] (f : J → Fin 3) (Φ : J → Fin 3 → sProp 𝕄) :
    (bigSep Finset.univ fun j => bigSep Finset.univ fun d => Φ j d) ⊢ bigSep Finset.univ fun j => Φ j (f j) :=
  bigSep_mono fun j _ => pick (Φ j) (f j)

/-- Of every cell's three tokens, those paid at all. -/
theorem own_of (c : Dev nD) :
    (bigSep Finset.univ fun x : Kd × Fin 3 => (dutyTok ER (cell c x.1) 0 x.2 : sProp 𝕄)) ⊢ own c := by
  rw [bigSep_univ_prod, kinds]
  unfold own
  dsimp only
  refine sep_mono_right (BI.sep_mono ?_ (BI.sep_mono ?_ (BI.sep_mono ?_ ?_)))
  · exact pick_each (F := F) (fun p : Fin 3 × Fin 4 => p.1) fun p d => dutyTok ER (cell c (.recv p.1 p.2)) 0 d
  · exact pick_each (F := F) (fun d : Fin 3 => d) fun d e => dutyTok ER (cell c (.axr d)) 0 e
  · exact pick_each (F := F) (fun p : Fin 3 × Fin 4 => p.1) fun p d => dutyTok ER (cell c (.send p.1 p.2)) 0 d
  · exact pick_each (F := F) (fun d : Fin 3 => d) fun d e => dutyTok ER (cell c (.axs d)) 0 e

/-- The tokens of payments to other devices go to the devices that make them. -/
theorem deal : (bigSep Finset.univ fun c : Dev nD => (own c : sProp 𝕄)) ⊢ bigSep Finset.univ fun c : Dev nD => pays c := by
  unfold own pays sTok mTok
  simp only [bigSep_sep']
  rw [around (fun d => d) (fun c (d : Fin 3) => (dutyTok ER (cell c .bar) 0 d : sProp 𝕄)),
    around (fun p : Fin 3 × Fin 4 => p.1) (fun c p => (dutyTok ER (cell c (.recv p.1 p.2)) 0 p.1 : sProp 𝕄)),
    around (fun d => d) (fun c (d : Fin 3) => (dutyTok ER (cell c (.axr d)) 0 d : sProp 𝕄))]
  iintro ⟨H1, H2, H3, H4, H5⟩
  iframe

/-- What a device holds of the protocol before its credits: the tokens of its payments and its cells' positions. -/
def linear (c : Dev nD) : sProp 𝕄 := iprop(pays (F := F) c ∗ bigSep Finset.univ fun k => atPos ER (cell c k) 0 ∅ 0)
/-- Its credits: for each cell that others pay into, what they pay. -/
def creds (c : Dev nD) : sProp 𝕄 :=
  iprop(cred (tallyAt (cell c .bar) () 3) ∗ (bigSep Finset.univ fun p : Fin 3 × Fin 4 => cred (tallyAt (cell c (.recv p.1 p.2)) () NX))
    ∗ bigSep Finset.univ fun d : Fin 3 => cred (tallyAt (cell c (.axr d)) () NA))

theorem ghost_intro (c : Dev nD) : iprop(linear (F := F) c ∗ creds c) ⊢ ghost c := by
  unfold linear creds pays ghost rWait mWait
  rw [kinds]
  simp only [bigSep_sep']
  iintro ⟨⟨⟨T1, T2, T3⟩, P1, P2, P3, P4, P5⟩, C1, C2, C3⟩
  iframe

/-! ## The launch credit -/

/-- What one device owes a cell is the count of its payments into it. -/
theorem owed_count (d c : Dev nD) (k : Kd) : ∀ l : List (Fin 3 × Kd),
    owed d l (cell c k) () = l.countP (fun x => decide (nxt d x.1 = c ∧ x.2 = k)) * k.amt
  | [] => by simp [owed]
  | x :: l => by
    have hg : (cell c k = cell (nxt d x.1) x.2 ∧ () = ()) ↔ (nxt d x.1 = c ∧ x.2 = k) := by
      constructor
      · rintro ⟨h, -⟩
        exact ⟨Fin.ext (congrArg (fun g : GSem nD τ sig => g.1.1.val) h).symm, (csem_inj (congrArg Prod.snd h)).symm⟩
      · rintro ⟨rfl, rfl⟩; exact ⟨rfl, rfl⟩
    unfold owed
    rw [Pi.add_apply, Finsupp.add_apply, tallyAt_apply, owed_count d c k l, List.countP_cons]
    by_cases h : nxt d x.1 = c ∧ x.2 = k
    · rw [if_pos (hg.mpr h), if_pos (by simpa using h), Nat.add_mul, Nat.one_mul, h.2]
    · rw [if_neg (fun h' => h (hg.mp h')), if_neg (by simpa using h), Nat.add_zero, Nat.add_zero]

/-- How many payments of other devices a cell takes. -/
def Kd.load : Kd → ℕ
  | .bar => 3
  | .recv _ _ | .axr _ => 1
  | .send _ _ | .axs _ => 0
theorem load_eq : ∀ (c : Dev nD) (k : Kd), (∑ d : Dev nD, dueAll.countP fun x => decide (nxt d x.1 = c ∧ x.2 = k)) = k.load := by decide +kernel

theorem launch_cell (c : Dev nD) (k : Kd) :
    tallyOn (cell c k) (launchCredit (Pipeline.owing fun c => owed c dueAll) 0 (cell c k)) = (tallyAt (cell c k) () (k.load * k.amt) : CellTallies nD τ sig Unit) := by
  unfold tallyAt; refine congrArg _ (Finsupp.ext fun u => ?_); cases u
  rw [Pipeline.launchCredit_owing, Finsupp.single_eq_same, Finset.sum_congr rfl fun d _ => owed_count d c k dueAll, ← Finset.sum_mul, load_eq]

theorem creds_of (c : Dev nD) : (Pipeline.launchCred (fun c => owed c dueAll) c : sProp 𝕄) ⊢ creds c := by
  unfold Pipeline.launchCred
  refine (bigSep_subset (Finset.subset_univ (Finset.univ.map ⟨csem, csem_inj⟩))).trans ?_
  rw [bigSep_map]
  refine (Entails.of_eq (congrArg (bigSep Finset.univ) (funext fun k => congrArg cred (launch_cell c k)))).trans ?_
  rw [kinds]
  unfold creds Kd.load Kd.amt
  simp only [Nat.one_mul, Nat.mul_one]
  iintro ⟨H1, H2, H3, -⟩
  iframe

/-! ## What a device starts and ends with -/

/-- A device's start: the records and its tokens, the waits' order, the left halves of its arrays and its fetches' counters. -/
def start (c : Dev nD) : sProp 𝕄 :=
  iprop((∃ K, records m K ∗ ghost (F := F) c) ∗ levAts L lv ∗ held (c : Thread nD τ) xM (fullShare : PosShare TreeShare).left (xAt m c)
    ∗ held (c : Thread nD τ) wM (fullShare : PosShare TreeShare).left (wAt m c) ∗ fetchSems (F := F) c)
def Φ₀ (c : Dev nD) : sProp 𝕄 := iprop(start m c ∗ scratch c)
def Φ₁ (c : Dev nD) : sProp 𝕄 := iprop(scratch (F := F) c ∗ fetchSems (F := F) c ∗ cellSems (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => fin m c
  Φ t := match t with
    | ⟨0, _⟩ => Φ₀ m c
    | ⟨_ + 1, _⟩ => Φ₁ (F := F) c
  q _ := fullShare
  owed t := match t with
    | ⟨0, _⟩ => owed c dueAll
    | ⟨_ + 1, _⟩ => 0

/-! ## The body obligation -/

/-- A buffer held whole is its memory at its contents. -/
theorem held_whole (c : Dev nD) (b : Ref sig .tc) (q : PosShare TreeShare) (X : b.ty.Contents (Elt F)) :
    (held (c : Thread nD τ) (Memref.whole b) q X : sProp 𝕄) = iprop(((c : Thread nD τ).loc b) ↦{q} X) := by
  have h := pointsTo_rep (Ix := Unit) (Name := ℕ) (U := UU) (Lvl := ℕ) (c : Thread nD τ) (Memref.whole b) X q
  simp only [Memref.view_whole, View.read_whole, View.set_whole] at h
  unfold held
  simp only [Memref.view_whole, View.set_whole]
  exact h.symm

/-- A buffer at contents not named is its memory at some contents. -/
theorem heldAny_whole (c : Dev nD) (b : Ref sig .tc) :
    (heldAny (c : Thread nD τ) (Memref.whole b) : sProp 𝕄) = iprop(∃ f : Buf (Elt F) ((c : Thread nD τ).loc b), ((c : Thread nD τ).loc b) ↦{fullShare} f) := by
  unfold heldAny
  exact congrArg BI.BIBase.exists (funext fun X => held_whole c b fullShare X)

/-- A buffer owned as the pipeline owns it. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) ⊣⊢ held (c : Thread nD τ) (Memref.whole b) fullShare X := by
  rw [held_whole]
  unfold owns
  simp only [Memref.view_whole, View.read_whole, View.set_whole]
  constructor
  · iintro ⟨%f, %hf, H⟩; subst hf; iexact H
  · iintro H; iexists X; isplitr; · (ipureintro; rfl)
    iexact H

/-- What the body starts from, -/
def bodyPre (c : Dev nD) : sProp 𝕄 :=
  iprop(Φ₀ m c ∗ (dats m ρ 0 c).owesAt () t0_0.castSucc ∗ ∃ d, owns (c : Thread nD τ) outM fullShare ((dats m ρ 0 c).before (0 : Fin 1) t0_0 d))
/-- and what it ends with. -/
def bodyPost (c : Dev nD) : sProp 𝕄 :=
  iprop(Φ₁ (F := F) c ∗ (dats m ρ 0 c).owesAt () t0_0.succ ∗ owns (c : Thread nD τ) outM fullShare (fin m c))

/-- What is owed before the body and after it. -/
theorem owes_first (c : Dev nD) : (dats m ρ 0 c).owesAt () t0_0.castSucc ⊢ owesAny (F := F) c dueAll := by
  unfold Dat.owesAt Pipeline.owesWithin owesAny
  rw [show (dats m ρ 0 c).owed t0_0.castSucc = owed c dueAll from rfl]
  iintro ⟨%W, -, H⟩; iexists W; iexact H
theorem owes_last (c : Dev nD) : owesAny (F := F) c [] ⊢ (dats m ρ 0 c).owesAt () t0_0.succ := by
  unfold Dat.owesAt Pipeline.owesWithin owesAny
  rw [show (dats m ρ 0 c).owed t0_0.succ = owed c [] from rfl]
  iintro ⟨%W, H⟩; iexists W
  isplitr; · ipureintro; exact fun _ _ => Or.inl trivial
  iexact H

theorem sound_body (c : Dev nD) : bodyPre m ρ c ⊢ does c bodyP fun _ => bodyPost m ρ c := by
  unfold bodyPre Φ₀ start
  iintro ⟨⟨⟨⟨%K, #HR, Hg⟩, #HL, Hx, Hw, Hf⟩, Hs⟩, Ho, %d, Hout⟩
  ihave Ho := (owes_first m ρ c) $$ Ho
  ihave Hout := (owns_held c cc0_stg0_0 _).1 $$ Hout
  ihave Hout := (heldAny_intro (c : Thread nD τ) outM _) $$ Hout
  iapply (do_body m (K := K) (c := c)) $$ [Hg Hx Hw Hf Hs Ho Hout]
  · iframe ∗ #
  iintro ⟨Hs, Hf, Hc, Hout, Ho⟩
  unfold bodyPost Φ₁
  ihave Ho := (owes_last m ρ c) $$ Ho
  ihave Hout := (owns_held c cc0_stg0_0 (fin m c)).2 $$ Hout
  iframe

set_option maxRecDepth 65536 in
/-- The launch's obligation on a device's body. -/
theorem body_obligation (c : Dev nD) : BodyObligation (dats (F := F) m ρ 0 c) (defs₀ (F := F)) 𝒱₀ () Set.univ := fun t => by
  rw [fin_N0 t]
  rw [bigSep_W0, bigSep_W0]
  have h := sound_body m ρ c
  rw [← body_eq] at h
  exact h

/-! ## The semaphores -/

/-- The kernel's own semaphores: its cells', but for the barrier's, and its fetches'. -/
abbrev Own : Type := (Fin 3 × Fin 4) ⊕ Fin 3 ⊕ (Fin 3 × Fin 4) ⊕ Fin 3 ⊕ Fin 2 ⊕ Unit ⊕ Fin 3
instance : DecidableEq ((Fin 3 × Fin 4) ⊕ Fin 3 ⊕ Fin 2 ⊕ Unit ⊕ Fin 3) := inferInstance
instance : DecidableEq Own := inferInstance
def osem : Own → SemLoc sig
  | .inl p => csem (.recv p.1 p.2)
  | .inr (.inl d) => csem (.axr d)
  | .inr (.inr (.inl p)) => csem (.send p.1 p.2)
  | .inr (.inr (.inr (.inl d))) => csem (.axs d)
  | .inr (.inr (.inr (.inr (.inl s)))) => .dma (sdS s)
  | .inr (.inr (.inr (.inr (.inr (.inl _))))) => .dma xdS
  | .inr (.inr (.inr (.inr (.inr (.inr s))))) => .dma (wdS s)

set_option maxRecDepth 10000 in
theorem osem_inj : ∀ k k' : Own, osem k = osem k' → k = k' := by decide +kernel
set_option maxRecDepth 10000 in
theorem ownSemFacts : Pipeline.OwnSemFacts cfg0.spec osem := ⟨by decide +kernel, fun k k' h => osem_inj k k' h, by decide +kernel⟩

/-- The counters of the cells' own semaphores. -/
def ownCells (c : Dev nD) : sProp 𝕄 :=
  iprop((bigSep Finset.univ fun p : Fin 3 × Fin 4 => semVal (cell c (.recv p.1 p.2)) 0) ∗ (bigSep Finset.univ fun d => semVal (cell c (.axr d)) 0)
    ∗ (bigSep Finset.univ fun p : Fin 3 × Fin 4 => semVal (cell c (.send p.1 p.2)) 0) ∗ bigSep Finset.univ fun d => semVal (cell c (.axs d)) 0)

theorem ownSems0_eq (c : Dev nD) : (Pipeline.ownSems0 (Ix := Unit) (Name := ℕ) (U := UU) (Lvl := ℕ) (Val := Elt F) (τ := τ) osem c : sProp 𝕄)
    ⊣⊢ iprop(ownCells c ∗ fetchSems c) := by
  unfold Pipeline.ownSems0
  rw [bigSep_univ_sum, bigSep_univ_sum, bigSep_univ_sum, bigSep_univ_sum, bigSep_univ_sum, bigSep_univ_sum]
  rw [show (Finset.univ : Finset Unit) = {()} from rfl, bigSep_singleton]
  show iprop((bigSep Finset.univ fun p : Fin 3 × Fin 4 => semVal (cell c (.recv p.1 p.2)) 0) ∗ (bigSep Finset.univ fun d => semVal (cell c (.axr d)) 0)
    ∗ (bigSep Finset.univ fun p : Fin 3 × Fin 4 => semVal (cell c (.send p.1 p.2)) 0) ∗ (bigSep Finset.univ fun d => semVal (cell c (.axs d)) 0)
    ∗ (bigSep Finset.univ fun s : Fin 2 => semVal ((c : Thread nD τ), SemLoc.dma (sdS s)) 0) ∗ semVal ((c : Thread nD τ), SemLoc.dma xdS) 0
    ∗ bigSep Finset.univ fun s : Fin 3 => semVal ((c : Thread nD τ), SemLoc.dma (wdS s)) 0) ⊣⊢ _
  unfold ownCells fetchSems
  constructor
  · iintro ⟨H1, H2, H3, H4, H5, H6, H7⟩
    iframe
  · iintro ⟨⟨H1, H2, H3, H4⟩, H5, H6, H7⟩
    iframe

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-! ## The launch -/

theorem cells_inj : Function.Injective fun p : Dev nD × Kd => cell p.1 p.2 := by
  rintro ⟨c, k⟩ ⟨c', k'⟩ h
  exact Prod.ext (Fin.ext (congrArg (fun g : GSem nD τ sig => g.1.1.val) h)) (csem_inj (congrArg Prod.snd h))
def theCells : Finset (GSem nD τ sig) := Finset.univ.map ⟨_, cells_inj⟩
theorem toks_inj : Function.Injective fun x : Dev nD × Kd × Fin 3 => ((cell x.1 x.2.1, 0, x.2.2) : GSem nD τ sig × ℕ × Fin 3) := by
  rintro ⟨c, k, d⟩ ⟨c', k', d'⟩ h
  have h1 := cells_inj (a₁ := (c, k)) (a₂ := (c', k')) (congrArg Prod.fst h)
  have h2 : d = d' := congrArg (fun x : GSem nD τ sig × ℕ × Fin 3 => x.2.2) h
  rw [Prod.mk.injEq] at h1
  rw [h1.1, h1.2, h2]
def theToks : Finset (GSem nD τ sig × ℕ × Fin 3) := Finset.univ.map ⟨_, toks_inj⟩

def u₀ : UU := (initOf (Pipeline.cells cfgs cellOf_inj) (Pipeline.launchToks cfgs cellOf_inj), (initOf theCells theToks, 1))

/-- What the launch deals a device, -/
def G (c : Dev nD) : sProp 𝕄 :=
  iprop((bigSep Finset.univ fun k => roundState ER (Rd m) (cell c k) 0) ∗ (bigSep Finset.univ fun k => atPos ER (cell c k) 0 ∅ 0)
    ∗ (bigSep Finset.univ fun k => reached ER (cell c k) 0) ∗ bigSep Finset.univ fun x : Kd × Fin 3 => dutyTok ER (cell c x.1) 0 x.2)
/-- and what comes of it once every device's cells are open. -/
def G' (c : Dev nD) : sProp 𝕄 := iprop((∃ K, records m K ∗ linear (F := F) c) ∗ fetchSems c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k => Φ (cell c k) := by
    unfold theCells; rw [bigSep_map, bigSep_univ_prod]; rfl
  have hT : bigSep theToks (fun x => (dutyTok ER x.1 x.2.1 x.2.2 : sProp 𝕄))
      = bigSep Finset.univ fun c : Dev nD => bigSep Finset.univ fun x : Kd × Fin 3 => dutyTok ER (cell c x.1) 0 x.2 := by
    unfold theToks; rw [bigSep_map, bigSep_univ_prod]; rfl
  iintro HX
  imod (Rounds.fund ER (Rd m) theCells theToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-- A device's counters and round states open its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => atPos ER (cell c k) 0 ∅ 0) ∗ (bigSep Finset.univ fun k => reached ER (cell c k) 0) ∗ own c ∗ fetchSems c) := by
  unfold G
  rw [unscopedSems0_eq]
  iintro ⟨Hos, Hb, Hst, Hat, Hr, Htok⟩
  ihave Hos := (ownSems0_eq (F := F) c).1 $$ Hos
  icases Hos with ⟨Hos, Hf⟩
  ihave Hv := (show iprop(semVal (cell c .bar) 0 ∗ ownCells c) ⊢ (bigSep Finset.univ fun k => semVal (cell c k) 0 : sProp 𝕄) from by
    rw [kinds fun k => semVal (cell c k) 0]; unfold ownCells; exact .rfl) $$ [Hb Hos]
  · iframe
  ihave Htok := (own_of (F := F) c) $$ Htok
  imod (show iprop((bigSep Finset.univ fun k => semVal (cell c k) 0) ∗ bigSep Finset.univ fun k => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · iframe
  imodintro
  iframe

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => atPos ER (cell c k) 0 ∅ 0) ∗ (bigSep Finset.univ fun k => reached ER (cell c k) 0) ∗ own c ∗ fetchSems c) : sProp 𝕄)
      ⊢ bigSep Finset.univ (G' m) := by
  simp only [bigSep_sep']
  rw [← bigSep_univ_prod (fun p : Dev nD × Kd => iprop(∃ κ : ℕ, cellInv ER (Rd m) κ (cell p.1 p.2))),
    ← bigSep_univ_prod (fun p : Dev nD × Kd => (reached ER (cell p.1 p.2) 0 : sProp 𝕄))]
  iintro ⟨HI, Hat, #HR, Htok, Hf⟩
  ihave HK := (BI.bigSep_exists_pi Finset.univ (fun (p : Dev nD × Kd) (κ : ℕ) => (cellInv ER (Rd m) κ (cell p.1 p.2) : sProp 𝕄))) $$ HI
  icases HK with ⟨%K, #HI⟩
  ihave Htok := (deal (F := F)) $$ Htok
  iapply (with_persistent (R := records m K) (Φ := fun c : Dev nD => iprop(linear (F := F) c ∗ fetchSems c)) fun c _ => show _ ⊢ G' m c from by
    unfold G'
    iintro ⟨#H, Hl, Hf⟩
    isplitl [Hl]
    · iexists K; iframe ∗ #
    iframe)
  isplitr
  · unfold records; iframe ∗ #
  · unfold linear; simp only [bigSep_sep']
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The run -/

theorem share_eq (c : Dev nD) (w : Fin cfg0.W) : (dats m ρ 0 c).share w = fullShare := by unfold Dat.share; split <;> rfl

/-- What a device keeps aside of its arrays: their right halves. -/
def aside (c : Dev nD) : sProp 𝕄 :=
  iprop((((c : Thread nD τ).loc main_arg0) ↦{(fullShare : PosShare TreeShare).right} m ((c : Thread nD τ).loc main_arg0))
    ∗ (((c : Thread nD τ).loc main_arg1) ↦{(fullShare : PosShare TreeShare).right} m ((c : Thread nD τ).loc main_arg1)))

/-- An array whole is its left half, held, and its right half. -/
theorem halve (c : Dev nD) (b : Ref sig .tc) (X : b.ty.Contents (Elt F)) :
    (((c : Thread nD τ).loc b) ↦{fullShare} X : sProp 𝕄) ⊢ iprop(held (c : Thread nD τ) (Memref.whole b) (fullShare : PosShare TreeShare).left X
      ∗ ((c : Thread nD τ).loc b) ↦{(fullShare : PosShare TreeShare).right} X) := by
  rw [← held_whole, ← held_whole]
  exact (held_halves (c : Thread nD τ) (Memref.whole b) fullShare X).1

theorem start_intro (c : Dev nD) :
    iprop(Pipeline.unscopedRestP Pipeline.Prefetch.none cfg0.spec c (fun b => m ((c : Thread nD τ).loc b)) ∗ levAts L lv
        ∗ Pipeline.launchCred (fun c => owed c dueAll) c ∗ prngReg c (ρ c) ∗ G' m c)
      ⊢ |={Set.univ}=> iprop(start m c ∗ aside m c) := by
  rw [Pipeline.unscopedRestP_none, unscopedRest0_eq]
  unfold G'
  iintro ⟨⟨H0, H1⟩, Hlev, Hcr, -, ⟨%K, #HR, Hl⟩, Hf⟩
  ihave Hc := (creds_of (F := F) c) $$ Hcr
  ihave Hg := (ghost_intro (F := F) c) $$ [Hl Hc]
  · iframe
  ihave H0 := (halve c main_arg0 (m ((c : Thread nD τ).loc main_arg0))) $$ H0
  ihave H1 := (halve c main_arg1 (m ((c : Thread nD τ).loc main_arg1))) $$ H1
  icases H0 with ⟨H0, K0⟩
  icases H1 with ⟨H1, K1⟩
  imodintro
  unfold start aside xAt wAt
  isplitr [K0 K1]
  · isplitl [Hg]
    · iexists K; iframe ∗ #
    iframe
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  simp only [heldAny_whole]
  iintro ⟨Hs, -, H0, H1, H2, H3, H4, H5⟩
  iframe

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ scratch cellSems
  simp only [heldAny_whole]
  iintro ⟨⟨H0, H1, H2, H3, H4, H5⟩, Hf, Hb, Hs, Hr, Has, Har⟩
  isplitl [Hb]; · iexact Hb
  isplitl [Hf Hs Hr Has Har]
  · iapply (ownSems0_eq (F := F) c).2
    unfold ownCells
    iframe
  iframe

theorem csem_stage : ∀ (w : Fin cfg0.W) (s : Fin (cfg0.spec w).nbuf) (k : Kd), csem k ≠ SemLoc.dma ((cfg0.spec w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ dueAll fun x hx => by rw [lvS_other _ fun k => csem_stage w s k]; revert x; decide
    · exact mayWait c _ [] fun x hx => absurd hx (by simp)

/-- The result's array at the end. -/
def finalA (c : Dev nD) : Buf (Elt F) ((c : Thread nD τ).loc main_v1) := (dats m ρ 0 c).arrAt (0 : Fin 1) cfg0.N

/-- What a run ends with. -/
def QC : PUnit × MemSt nD τ sig (Elt F) → Prop := fun r => ∀ c : Dev nD,
  r.2.mem ((c : Thread nD τ).loc main_v1) = finalA m ρ c ∧ r.2.mem ((c : Thread nD τ).loc main_arg0) = m ((c : Thread nD τ).loc main_arg0)
    ∧ r.2.mem ((c : Thread nD τ).loc main_arg1) = m ((c : Thread nD τ).loc main_arg1)

theorem aside_read (c : Dev nD) (s' : Phys nD τ sig (Elt F)) :
    iprop(aside m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') : sProp 𝕄) := by
  unfold aside
  iintro ⟨⟨H0, H1⟩, HSI⟩
  icombine HSI H0 gives %h0
  icombine HSI H1 gives %h1
  isplitr
  · ipureintro
    exact ⟨funext fun i => h0 i (Finset.mem_univ i), funext fun i => h1 i (Finset.mem_univ i)⟩
  iexact HSI

set_option maxRecDepth 8000 in
/-- On four devices, for any float values, from any memory with zero counters: every weakly fair execution terminates, and ends with
    the result's array at the computed contents, the arguments unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owed c dueAll) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR (initOf theCells theToks) (1 : Counters)) $$ HX
      icases HX with ⟨HX, -⟩
      ihave HX := (Entails.of_eq (show BI.own (((Emb.inl : Emb UB (UB × Counters)).trans embR) (initOf theCells theToks)) = BI.own (ER (F := F) (initOf theCells theToks)) from rfl)) $$ HX
      imod (fund_cells m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := phi0_intro m ρ) (hout := phi1_exit m ρ)
    (QY := fun c s => (s.mem ((c : Thread nD τ).loc main_arg0) = m ((c : Thread nD τ).loc main_arg0)
      ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      iintro ⟨Hu, Hz, HSI⟩
      ihave H := (aside_read m c s') $$ [Hz HSI]
      · isplitl [Hz] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr
      · ipureintro; exact ⟨h, h'⟩
      iexact HSI)
    (hQ := fun _ h hs => ⟨fun c => ⟨(h c).1 (0 : Fin 1), (h c).2.2.1⟩, sem_eq_zero hs fun c => (h c).2.2.2⟩)

end Cert.KernelIdeal.Run

end
-- ==== Proof.Value.lean ====
/-
  What the kernel computes over the reals: every device's result is its block of the reference's. A device's sums are the
  four partial products of its rows, which together are the whole product; the largest magnitude the devices agree on is that
  of the whole product; what follows is elementwise.
-/
module

public import proofs.«01_k».proof.Proof.Run
public import proofs.«01_k».proof.Proof.Gen.ReferenceIdeal.Read
public import Idealize.ShloMosaic.Lib.MatmulPlain
public import Idealize.ShloMosaic.Lib.ValueIdx
public import Idealize.ShloMosaic.Lib.Layout

@[expose] public section

noncomputable section

namespace Cert.KernelIdeal.Run

open Idealize.ShloMosaic Idealize.ShloMosaic.TcCoe Idealize.SL.Sem Idealize.ShloMosaic.ValueIdx
open Cert.KernelIdeal.Gen Cert.Held

/-! ## The result's array -/

section Array

variable {F : FTy → Type} [FloatOps F] (m : (ℓ : Loc nD τ sig) → Buf (Elt F) ℓ) (ρ : Dev nD → PrngReg)

/-- The one block of the result's window is the whole array. -/
theorem whole_block (t : Fin cfg0.N) (G : S1024x2048.Idx → Elt F .f32) : ((cfg0.win 0).blk t).view.read (Elt F) G = G := by
  funext y
  rw [View.read_apply]
  refine congrArg G (funext fun a => Fin.ext ?_)
  show 0 * _ + 1 * (y a).val = (y a).val
  omega

/-- The result's array ends at what the body left. -/
theorem finalA_eq (c : Dev nD) : finalA m ρ c = fin m c :=
  (dats m ρ 0 c).arrAt_eq_of_cover 0 (fin m c) (fun t _ => (whole_block t (fin m c)).symm) fun i => ⟨t0_0, flush0_0 _, by
    have h : ((cfg0.win 0).blk t0_0).view.emb i = i := funext fun a => Fin.ext (by
      show 0 * _ + 1 * (i a).val = (i a).val
      omega)
    exact h ▸ View.emb_mem_set _ i⟩

end Array

/-! ## Reading the arrays by rows and columns -/

/-- Rows of an array from `o` on: the entry at a row and a column. -/
theorem rows_apply {M N n : ℕ} {off : Fin 2 → ℕ} {o : ℕ} (h : off = ![o, 0]) (ho : o + n ≤ M)
    (inb : ∀ a, off a + (![n, N] : Fin 2 → ℕ) a ≤ (⟨2, ![M, N]⟩ : Shape).size a) (Z : (⟨2, ![M, N]⟩ : Shape).Idx → Elt Ideal .f32)
    (a : Fin n) (k : Fin N) :
    part (Rect.unit (s := ⟨2, ![M, N]⟩) off ![n, N] inb) Z (ix2 a k) = Z (ix2 ⟨o + a.val, by have := a.isLt; omega⟩ k) := by
  subst h
  refine congrArg Z (funext fun b => Fin.ext ?_)
  match b with
  | ⟨0, _⟩ => show o + 1 * a.val = o + a.val; omega
  | ⟨1, _⟩ => show 0 + 1 * k.val = k.val; omega

/-- The row `i` of block `p` of four, in the whole. -/
def at4 (p : Fin 4) (i : Fin 1024) : Fin 4096 := ⟨1024 * p.val + i.val, by have := p.isLt; have := i.isLt; omega⟩
/-- The row `a` of chunk `r` of four, in its block. -/
def inChunk (r : Fin 4) (a : Fin 256) : Fin 1024 := ⟨256 * r.val + a.val, by have := r.isLt; have := a.isLt; omega⟩

theorem at4_onto (i : Fin 4096) : ∃ p j, at4 p j = i :=
  ⟨⟨i.val / 1024, by have := i.isLt; omega⟩, ⟨i.val % 1024, Nat.mod_lt _ (by decide)⟩, Fin.ext (by show 1024 * (i.val / 1024) + i.val % 1024 = i.val; omega)⟩
theorem inChunk_onto (i : Fin 1024) : ∃ r a, inChunk r a = i :=
  ⟨⟨i.val / 256, by have := i.isLt; omega⟩, ⟨i.val % 256, Nat.mod_lt _ (by decide)⟩, Fin.ext (by show 256 * (i.val / 256) + i.val % 256 = i.val; omega)⟩

/-- A sum over the whole is the sum over the four blocks. -/
theorem sum_at4 (f : Fin 4096 → EReal) : ∑ k, f k = ∑ p : Fin 4, ∑ k : Fin 1024, f (at4 p k) := by
  rw [← Fintype.sum_prod_type']
  refine (Fintype.sum_equiv (finProdFinEquiv (m := 4) (n := 1024)) _ _ fun q => congrArg f (Fin.ext ?_)).symm
  show 1024 * q.1.val + q.2.val = q.2.val + 1024 * q.1.val
  omega

/-- Over the four devices, a sum in the order in which a device receives. -/
theorem sum_ring (g : Dev nD → EReal) (c : Dev nD) : ∑ p, g p = g c + g (prv c 0) + g (prv c 2) + g (prv c 1) := by
  have hu : (Finset.univ : Finset (Dev nD)) = {c, prv c 0, prv c 2, prv c 1} := by revert c; decide
  have h0 : c ∉ ({prv c 0, prv c 2, prv c 1} : Finset (Dev nD)) := by revert c; decide
  have h1 : prv c 0 ∉ ({prv c 2, prv c 1} : Finset (Dev nD)) := by revert c; decide
  have h2 : prv c 2 ∉ ({prv c 1} : Finset (Dev nD)) := by revert c; decide
  rw [hu, Finset.sum_insert h0, Finset.sum_insert h1, Finset.sum_insert h2, Finset.sum_singleton]
  simp only [add_assoc]

/-! ## The sums -/

section Sums

variable (m : (ℓ : Loc nD τ sig) → Buf (Elt Ideal) ℓ) (X : (⟨2, ![4096, 4096]⟩ : Shape).Idx → Elt Ideal .f32) (W : S4096x2048.Idx → Elt Ideal .f32)

/-- The product of row `i` of `X` and column `b` of `W` over the columns of block `p`. -/
def dotAt (p : Fin 4) (i : Fin 4096) (b : Fin 2048) : EReal := ∑ k : Fin 1024, X (ix2 i (at4 p k)) * W (ix2 (at4 p k) b)

/-- The reference's product, by blocks of columns. -/
theorem product_apply (i : Fin 4096) (b : Fin 2048) :
    Cert.ReferenceIdeal.Read.val_main_v0 (F := Ideal) X W (ix2 i b) = ∑ p : Fin 4, dotAt X W p i b := by
  rw [Cert.ReferenceIdeal.Read.val_main_v0_apply, sum_at4]
  refine Finset.sum_congr rfl fun p _ => Finset.sum_congr rfl fun k _ => ?_
  have hl : Cert.ReferenceIdeal.Read.lidx_main_v0 (ix2 i b) (at4 p k) = ix2 i (at4 p k) := funext fun a => match a with
    | ⟨0, _⟩ => rfl
    | ⟨1, _⟩ => rfl
  have hr : Cert.ReferenceIdeal.Read.ridx_main_v0 (ix2 i b) (at4 p k) = ix2 (at4 p k) b := funext fun a => match a with
    | ⟨0, _⟩ => rfl
    | ⟨1, _⟩ => rfl
  rw [hl, hr]

/-- The devices' blocks of columns tile the reference's first argument. -/
theorem tiles_x : Layout.Tiles ⟨2, ![4096, 1024]⟩ ⟨2, ![4096, 4096]⟩ 1 4 := by decide

variable (hx : ∀ c, xAt m c = Layout.block ⟨2, ![4096, 1024]⟩ ⟨2, ![4096, 4096]⟩ 1 4 c X tiles_x) (hw : ∀ c, wAt m c = W)

include hx in
/-- A device's block of `x` is its columns of the whole. -/
theorem xAt_apply (c : Dev nD) (i : Fin 4096) (k : Fin 1024) : xAt m c (ix2 i k) = X (ix2 i (at4 c k)) := by
  rw [hx]
  refine congrArg X (funext fun a => Fin.ext ?_)
  match a with
  | ⟨0, _⟩ => rfl
  | ⟨1, _⟩ => show c.val * 1024 + k.val = 1024 * c.val + k.val; omega

include hx in
/-- The chunk a device receives is its own rows of the sender's columns. -/
theorem sent_apply (c : Dev nD) (d : Fin 3) (r : Fin 4) (a : Fin 256) (k : Fin 1024) :
    sent m (prv c d) d r (ix2 a k) = X (ix2 (at4 c (inChunk r a)) (at4 (prv c d) k)) := by
  have hc : ((prv c d).val + d.val + 1) % 4 = c.val := congrArg Fin.val (nxt_prv c d)
  have ho := k0_off1_eq (prv c d) d r
  rw [hc] at ho
  have h1 : c.val < 4 := c.isLt; have h2 := r.isLt
  have h := rows_apply ho (by omega) (k0_off1_inb (prv c d) d r) (xAt m (prv c d)) a k
  refine (show sent m (prv c d) d r (ix2 a k) = _ from h).trans ?_
  rw [xAt_apply m X hx]
  refine congrArg (fun i => X (ix2 i _)) (Fin.ext ?_)
  show 1024 * c.val + 256 * r.val + a.val = 1024 * c.val + (256 * r.val + a.val)
  omega

include hx in
/-- The rows a device keeps. -/
theorem xo_apply (c : Dev nD) (i k : Fin 1024) : xo m c (ix2 i k) = X (ix2 (at4 c i) (at4 c k)) := by
  have h1 : c.val < 4 := c.isLt
  refine (rows_apply (k0_off2_eq c) (by omega) (k0_off2_inb c) (xAt m c) i k).trans ?_
  rw [xAt_apply m X hx]
  rfl

include hw in
/-- The rows of `w` for the device's own columns, -/
theorem wo_apply (c : Dev nD) (k : Fin 1024) (b : Fin 2048) : wo m c (ix2 k b) = W (ix2 (at4 c k) b) := by
  have h1 : c.val < 4 := c.isLt
  refine (rows_apply (k0_off3_eq c) (by omega) (k0_off3_inb c) (wAt m c) k b).trans ?_
  rw [hw]
  rfl

include hw in
/-- and for a sender's. -/
theorem wc_apply (c : Dev nD) (d : Fin 3) (k : Fin 1024) (b : Fin 2048) : wc m c d (ix2 k b) = W (ix2 (at4 (prv c d) k) b) := by
  have hd : (c.val + 3 - d.val) % 4 = (prv c d).val := by revert c d; decide
  have ho := k0_off4_eq c d
  rw [hd] at ho
  have h1 : (prv c d).val < 4 := (prv c d).isLt
  refine (rows_apply ho (by omega) (k0_off4_inb c d) (wAt m c) k b).trans ?_
  rw [hw]
  rfl

include hx hw in
/-- The product of the rows a device keeps. -/
theorem out0_apply (c : Dev nD) (i : Fin 1024) (b : Fin 2048) : out0 m c (ix2 i b) = dotAt X W c (at4 c i) b := by
  have h : out0 m c = FloatOps.matmul (F := Ideal) (DotDims.plain 1024 1024 2048) none (xo m c)
      (shapeCast S1024x2048 (shapeCast S1x1024x2048 (wo m c) sc_w) shapeCasts_S1x1024x2048_S1024x2048) (constant S1024x2048 .f32 0x00000000#32) := rfl
  rw [h, shapeCast_shapeCast, Ideal.matmul_plain_apply]
  refine (congrArg (· + _) Ideal.ofBits_zero_f32).trans ((zero_add _).trans (Finset.sum_congr rfl fun k _ => ?_))
  rw [xo_apply m X hx, wo_apply m W hw]

include hx hw in
/-- A received chunk's product is added. -/
theorem plus_apply (c : Dev nD) (d : Fin 3) (r : Fin 4) (o : Vec Ideal S256x2048 .f32) (a : Fin 256) (b : Fin 2048) :
    plus m c d r o (ix2 a b) = o (ix2 a b) + dotAt X W (prv c d) (at4 c (inChunk r a)) b := by
  have h : plus m c d r o (ix2 a b) = shapeCast S256x2048 o shapeCasts_S256x2048_S256x2048 (ix2 a b)
      + FloatOps.matmul (F := Ideal) (φ₁ := .f32) (φ₂ := .f32) (DotDims.plain 256 1024 2048) none
          (shapeCast S256x1024 (shapeCast S1x256x1024 (sent m (prv c d) d r) sc_x) shapeCasts_S1x256x1024_S256x1024)
          (shapeCast S1024x2048 (shapeCast S1x1024x2048 (wc m c d) sc_w) shapeCasts_S1x1024x2048_S1024x2048) (constant S256x2048 .f32 0x00000000#32) (ix2 a b) := rfl
  rw [h, shapeCast_shapeCast, shapeCast_shapeCast, shapeCast_self, Ideal.matmul_plain_apply]
  refine congrArg (o (ix2 a b) + ·) ((congrArg (· + _) Ideal.ofBits_zero_f32).trans ((zero_add _).trans (Finset.sum_congr rfl fun k _ => ?_)))
  rw [sent_apply m X hx, wc_apply m W hw]

include hx hw in
/-- The sums of a chunk are the reference's product at the device's rows. -/
theorem out1_apply (c : Dev nD) (r : Fin 4) (a : Fin 256) (b : Fin 2048) :
    out1 m c r (ix2 a b) = Cert.ReferenceIdeal.Read.val_main_v0 (F := Ideal) X W (ix2 (at4 c (inChunk r a)) b) := by
  have h2 := r.isLt
  have h : part (outR r) (out0 m c) (ix2 a b) = out0 m c (ix2 (inChunk r a) b) := rows_apply rfl (by omega) (inb_out r) (out0 m c) a b
  unfold out1
  rw [plus_apply m X W hx hw, plus_apply m X W hx hw, plus_apply m X W hx hw, h, out0_apply m X W hx hw, product_apply]
  exact (sum_ring (fun p => dotAt X W p (at4 c (inChunk r a)) b) c).symm

include hx hw in
/-- The sums of a device are its block of the reference's product. -/
theorem outAll_apply (c : Dev nD) (i : Fin 1024) (b : Fin 2048) :
    outAll m c (ix2 i b) = Cert.ReferenceIdeal.Read.val_main_v0 (F := Ideal) X W (ix2 (at4 c i) b) := by
  obtain ⟨r, a, rfl⟩ := inChunk_onto i
  have h2 := r.isLt
  have h : part (outR r) (outAll m c) (ix2 a b) = outAll m c (ix2 (inChunk r a) b) := rows_apply rfl (by omega) (inb_out r) (outAll m c) a b
  rw [← h, ← out1_apply m X W hx hw]
  exact congrFun (part_glue outR out_dis out_cov (fun r => out1 m c r) r) (ix2 a b)

/-! ## The largest magnitude -/

/-- The largest element of an array, over the axes named. -/
def largest {s t : Shape} {axes : List (Fin s.rank)} (h : s.Reduces axes t) (v : FVec Ideal s .f32) : FVec Ideal t .f32 :=
  multiReduction .maximumf axes t v 0xFF800000#32 h (.inl rfl) rfl

/-- A largest element over all of an array is known by what bounds it. -/
theorem largest_le {s t : Shape} {axes : List (Fin s.rank)} (h : s.Reduces axes t) (ht : ∀ b, t.size b = 1) (v : FVec Ideal s .f32)
    (j : t.Idx) (z : EReal) : largest h v j ≤ z ↔ Ideal.ofBits .f32 0xFF800000#32 ≤ z ∧ ∀ i, v i ≤ z := by
  have e : largest h v j = _ := multiReduction_maximumf_eq_fold v _ h (.inl rfl) rfl j
  rw [e, Finset.filter_true_of_mem fun i _ => funext fun b => Fin.ext (by
    have := (h.drop i b).isLt; have := (j b).isLt; have := ht b; omega)]
  exact (Finset.fold_max_le z).trans (and_congr_right fun _ => ⟨fun h i => h i (Finset.mem_univ i), fun h i _ => h i⟩)

/-- The elements of a reshaped array are those of the array. -/
theorem forall_cast {s t : Shape} {α : Type} (v : s.Idx → α) (h : s.ShapeCasts t) (Q : α → Prop) : (∀ i, Q (shapeCast t v h i)) ↔ ∀ i, Q (v i) :=
  ⟨fun H i => by
    have := H ((Shape.reshapeEquiv h).symm i)
    unfold shapeCast at this
    rwa [Equiv.apply_symm_apply] at this, fun H i => H _⟩

/-- The elements of a glued array are those of its pieces. -/
theorem forall_glue {s : Shape} {T : Type} (R : T → Rect s) (hdis : ∀ t t' i i', (R t).emb i = (R t').emb i' → t = t')
    (hcov : ∀ i, ∃ t y, (R t).emb y = i) (v : (t : T) → (R t).shape.Idx → Elt Ideal .f32) (Q : EReal → Prop) :
    (∀ i, Q (glue R hcov v i)) ↔ ∀ t y, Q (v t y) :=
  ⟨fun H t y => by
    have := H ((R t).emb y)
    rwa [show glue R hcov v ((R t).emb y) = v t y from congrFun (part_glue R hdis hcov v t) y] at this, fun H i => H _ _⟩

/-- The magnitude of a number. -/
def mag (y : EReal) : EReal := max y (-y)

/-- The one element of an array of one element, shown at rank three. -/
theorem pick_one (v : FVec Ideal S1 .f32) :
    ∃ j, extractAt ![0, 0, 0] (shapeCast S1x1x1 v shapeCasts_S1_S1x1x1) inpos_S1x1x1_p0_0_0 = v j := ⟨_, rfl⟩

/-- The steps of the kernel, as operations on numbers: the largest magnitude of a chunk, -/
theorem chunk_eq (o : Vec Ideal S256x2048 .f32) : ∃ j, k0_pay20 (F := Ideal) o
    = largest reduces_S1x256x2048_S1 (shapeCast S1x256x2048 (absf (shapeCast S256x2048 o shapeCasts_S256x2048_S256x2048)) shapeCasts_S256x2048_S1x256x2048) j := by
  unfold k0_pay20
  exact pick_one (largest _ _)
/-- a device's row, -/
theorem row_eq (a b c d : Ideal .f32) (y : S1x128.Idx) : k0_pay36 (F := Ideal) a b c d y = max (max (max a b) c) d := by
  unfold k0_pay36
  rw [shapeCast_self]
  rfl
/-- the scale, -/
theorem scale_step (v : Vec Ideal S4x128 .f32) : ∃ j, k0_pay37 (F := Ideal) v
    = Ideal.div (largest reduces_S1x4x128_S1 (shapeCast S1x4x128 v shapeCasts_S4x128_S1x4x128) j) (Ideal.ofBits .f32 0x42FE0000#32) := by
  obtain ⟨j, hj⟩ := pick_one (largest reduces_S1x4x128_S1 (shapeCast S1x4x128 v shapeCasts_S4x128_S1x4x128))
  unfold k0_pay37
  exact ⟨j, congrArg (fun A => Ideal.div A (Ideal.ofBits .f32 0x42FE0000#32)) hj⟩
/-- the quotient, -/
theorem quotient_eq (v : Vec Ideal S4x128 .f32) (o : Vec Ideal S1024x2048 .f32) (y : S1024x2048.Idx) :
    k0_pay38 (F := Ideal) v o y = Ideal.div (o y) (k0_pay37 (F := Ideal) v) := by
  unfold k0_pay38
  rw [shapeCast_self]
  rfl
/-- and the rounded quotient clipped and scaled back. -/
theorem level_eq (q : Ideal .f32) (v : FVec Ideal S1024x2048 .f32) (y : S1024x2048.Idx) :
    k0_pay1 (F := Ideal) q v y
      = min (Ideal.ofBits .f32 0x42FE0000#32) (max (Ideal.ofBits .f32 0xC2FE0000#32) (Ideal.liftRound Ideal.roundHalfEven (v y))) * q := rfl

/-- What bounds the largest magnitude of a chunk. -/
theorem chunk_le (o : Vec Ideal S256x2048 .f32) (z : EReal) :
    k0_pay20 (F := Ideal) o ≤ z ↔ Ideal.ofBits .f32 0xFF800000#32 ≤ z ∧ ∀ i, mag (o i) ≤ z := by
  obtain ⟨j, hj⟩ := chunk_eq o
  rw [hj, largest_le _ (by decide), shapeCast_self]
  exact and_congr_right fun _ => forall_cast _ _ (· ≤ z)

/-- What bounds a device's row of magnitudes. -/
theorem row_le (c : Dev nD) (y : S1x128.Idx) (z : EReal) :
    amx m c y ≤ z ↔ Ideal.ofBits .f32 0xFF800000#32 ≤ z ∧ ∀ r i, mag (out1 m c r i) ≤ z := by
  unfold amx
  rw [row_eq, max_le_iff, max_le_iff, max_le_iff, chunk_le, chunk_le, chunk_le, chunk_le]
  constructor
  · rintro ⟨⟨⟨⟨hb, h0⟩, -, h1⟩, -, h2⟩, -, h3⟩
    exact ⟨hb, fun r => match r with | 0 => h0 | 1 => h1 | 2 => h2 | 3 => h3⟩
  · rintro ⟨hb, hr⟩
    exact ⟨⟨⟨⟨hb, hr 0⟩, hb, hr 1⟩, hb, hr 2⟩, hb, hr 3⟩

/-- What bounds the reference's largest magnitude. -/
theorem ref_le (j : Cert.ReferenceIdeal.S_.Idx) (z : EReal) :
    Cert.ReferenceIdeal.Read.val_main_v2 (F := Ideal) X W j ≤ z
      ↔ Ideal.ofBits .f32 0xFF800000#32 ≤ z ∧ ∀ i, mag (Cert.ReferenceIdeal.Read.val_main_v0 (F := Ideal) X W i) ≤ z := by
  unfold Cert.ReferenceIdeal.Read.val_main_v2
  rw [Host.reduce_eq_fold, Finset.filter_true_of_mem fun i _ => funext fun b => b.elim0]
  exact (Finset.fold_max_le z).trans (and_congr_right fun _ => ⟨fun h i => h i (Finset.mem_univ i), fun h i _ => h i⟩)

include hx hw in
/-- The kernel's scale is the reference's. -/
theorem scale_eq (j : Cert.ReferenceIdeal.S_.Idx) : k0_pay37 (F := Ideal) (axAll m) = Cert.ReferenceIdeal.Read.val_main_v3 (F := Ideal) X W j := by
  obtain ⟨k, hk⟩ := scale_step (axAll m)
  rw [hk]
  refine congrArg (fun A => Ideal.div A (Ideal.ofBits .f32 0x42FE0000#32)) (eq_of_forall_ge_iff fun z => ?_)
  rw [largest_le _ (by decide), ref_le]
  refine and_congr_right fun hb => (forall_cast _ _ (· ≤ z)).trans ((forall_glue rowR row_dis row_cov _ (· ≤ z)).trans ?_)
  constructor
  · intro H y
    obtain ⟨i, b, rfl⟩ : ∃ i b, y = ix2 i b := ⟨_, _, eq_ix2 y⟩
    obtain ⟨c, i, rfl⟩ := at4_onto i
    obtain ⟨r, a, rfl⟩ := inChunk_onto i
    rw [← out1_apply m X W hx hw]
    exact ((row_le m c (ix2 (0 : Fin 1) (0 : Fin 128)) z).1 (H c _)).2 r _
  · intro H c y
    refine (row_le m c y z).2 ⟨hb, fun r i => ?_⟩
    obtain ⟨a, b, rfl⟩ : ∃ a b, i = ix2 a b := ⟨_, _, eq_ix2 i⟩
    rw [out1_apply m X W hx hw]
    exact H _

/-! ## The result -/

include hx hw in
/-- The result of a device is its block of the reference's. -/
theorem fin_eq (c : Dev nD) :
    fin m c = Layout.block ⟨2, ![1024, 2048]⟩ ⟨2, ![4096, 2048]⟩ 0 4 c (Cert.ReferenceIdeal.Read.val_main_v9 (F := Ideal) X W) := by
  funext y
  obtain ⟨i, b, rfl⟩ : ∃ i b, y = ix2 i b := ⟨_, _, eq_ix2 y⟩
  have hi : (show Layout.Tiles ⟨2, ![1024, 2048]⟩ ⟨2, ![4096, 2048]⟩ 0 4 by decide).idx c (ix2 i b) = ix2 (at4 c i) b := funext fun a => Fin.ext (by
    match a with
    | ⟨0, _⟩ => show c.val * 1024 + i.val = 1024 * c.val + i.val; omega
    | ⟨1, _⟩ => rfl)
  rw [Layout.block_apply, hi]
  unfold fin
  rw [level_eq, quotient_eq, outAll_apply m X W hx hw, scale_eq m X W hx hw (fun a => a.elim0), Cert.ReferenceIdeal.Read.val_main_v9_apply, Cert.ReferenceIdeal.Read.val_main_v8_apply,
    Cert.ReferenceIdeal.Read.val_main_v7_apply, Cert.ReferenceIdeal.Read.val_main_call1_v4_apply, Cert.ReferenceIdeal.Read.val_main_call1_v2_apply,
    Cert.ReferenceIdeal.Read.val_main_call1_v1_apply, Cert.ReferenceIdeal.Read.val_main_v6_apply, Cert.ReferenceIdeal.Read.val_main_v5_apply,
    Cert.ReferenceIdeal.Read.val_main_v4_apply]
  rfl

end Sums

end Cert.KernelIdeal.Run

end
-- ==== Proof.lean ====
/-
  The certificate's claims, each from the run of its program: the frames, that the idealized kernel is the kernel, and
  that every device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Bits.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel, at the bit patterns, ends with its arguments unchanged and every counter at zero. -/
theorem frame_kernel : Cert.quiescent_Kernel := fun m g _ =>
  (θ_run _ _ _).mono (fun _ h => ⟨fun c => (h.1 c).2, h.2⟩) (Cert.Kernel.Run.run_main (F := Bits) m g)

/-- So does the kernel over the reals. -/
theorem frame_kernelIdeal : Cert.quiescent_KernelIdeal := fun m g _ =>
  (θ_run _ _ _).mono (fun _ h => ⟨fun c => (h.1 c).2, h.2⟩) (Cert.KernelIdeal.Run.run_main (F := Ideal) m g)

/-- So does the reference, which has no counter. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- Over the reals every device of the kernel ends with its block of the rows of the reference's result. -/
theorem value_kernelIdeal : Cert.algebraic_KernelIdeal_ReferenceIdeal := by
  intro m g m' g' _ h
  refine ⟨Cert.ReferenceIdeal.Read.val_main_v9 (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run _ _ _).mono (fun _ hr c => ⟨(hr.1 c).1.trans ((Cert.KernelIdeal.Run.finalA_eq m g c).trans ?_), (hr.1 c).2⟩)
      (Cert.KernelIdeal.Run.run_main (F := Ideal) m g)
    exact Cert.KernelIdeal.Run.fin_eq m _ _ (fun c => (h c).1) (fun c => (h c).2) c
  · exact (θ_run _ _ _).mono (fun _ hr => ⟨(hr 0).1.trans (Cert.ReferenceIdeal.Read.val_main_v9_eq _ _), (hr 0).2⟩)
      (Cert.ReferenceIdeal.Value.run (F := Ideal) m' g')

/-- All that is claimed. -/
theorem claim : Cert.Claim :=
  ⟨Cert.Kernel.Gen.facts, Cert.KernelIdeal.Gen.facts, Cert.ReferenceIdeal.Gen.facts,
    frame_kernel, frame_kernelIdeal, frame_referenceIdeal, trivial, value_kernelIdeal⟩

end Cert.Proof

end
